-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S10000x128 : Shape := ⟨2, ![10000, 128]⟩
abbrev S2x320000 : Shape := ⟨2, ![2, 320000]⟩
abbrev S2048x128 : Shape := ⟨2, ![2048, 128]⟩
abbrev S2048 : Shape := ⟨1, ![2048]⟩
abbrev S2048x2048 : Shape := ⟨2, ![2048, 2048]⟩
abbrev S128x2048 : Shape := ⟨2, ![128, 2048]⟩
abbrev S128 : Shape := ⟨1, ![128]⟩
abbrev S_ : Shape := ⟨0, ![]⟩

class Facts : Prop where
  bcast_S_S10000x128 : S_.BroadcastsInDim S10000x128 (![] : Fin 0 → Fin S10000x128.rank)
  bcast_S_S2048x128 : S_.BroadcastsInDim S2048x128 (![] : Fin 0 → Fin S2048x128.rank)
  bcast_S_S2048 : S_.BroadcastsInDim S2048 (![] : Fin 0 → Fin S2048.rank)
  bcast_S_S2048x2048 : S_.BroadcastsInDim S2048x2048 (![] : Fin 0 → Fin S2048x2048.rank)
  bcast_S_S128x2048 : S_.BroadcastsInDim S128x2048 (![] : Fin 0 → Fin S128x2048.rank)

variable [Facts]

def fn_part3 {F : FTy → Type} [FloatOps F] (main_arg20 : FVec F S128x2048 .f32) (main_v2 : IVec S10000x128 1) (main_v5 : IVec S2048x128 1) (main_v8 : IVec S2048 1) (main_v11 : IVec S2048x128 1) (main_v14 : IVec S2048 1) (main_v17 : IVec S2048x2048 1) (main_v20 : IVec S2048 1) (main_v23 : IVec S2048x2048 1) (main_v26 : IVec S2048 1) (main_v29 : IVec S2048x2048 1) (main_v32 : IVec S2048 1) (main_v35 : IVec S2048x2048 1) (main_v38 : IVec S2048 1) (main_v41 : IVec S2048x2048 1) (main_v44 : IVec S2048 1) (main_v47 : IVec S2048x2048 1) (main_v50 : IVec S2048 1) (main_v53 : IVec S128x2048 1) : IVec S10000x128 1 × IVec S2048x128 1 × IVec S2048 1 × IVec S2048x128 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S128x2048 1 × IVec S128x2048 1 :=
  let main_v54 : FVec F S128x2048 .f32 := Host.absf main_arg20
  let main_cst_17 : FVec F S_ .f32 := constant S_ .f32 0x7F800000#32
  let main_v55 : FVec F S128x2048 .f32 := broadcastInDim S128x2048 ![] bcast_S_S128x2048 main_cst_17
  let main_v56 : IVec S128x2048 1 := cmpf .olt main_v54 main_v55
  (main_v2, main_v5, main_v8, main_v11, main_v14, main_v17, main_v20, main_v23, main_v26, main_v29, main_v32, main_v35, main_v38, main_v41, main_v44, main_v47, main_v50, main_v53, main_v56)

def fn_part2 {F : FTy → Type} [FloatOps F] (main_arg13 : FVec F S2048 .f32) (main_arg14 : FVec F S2048x2048 .f32) (main_arg15 : FVec F S2048 .f32) (main_arg16 : FVec F S2048x2048 .f32) (main_arg17 : FVec F S2048 .f32) (main_arg18 : FVec F S128x2048 .f32) (main_arg20 : FVec F S128x2048 .f32) (main_v2 : IVec S10000x128 1) (main_v5 : IVec S2048x128 1) (main_v8 : IVec S2048 1) (main_v11 : IVec S2048x128 1) (main_v14 : IVec S2048 1) (main_v17 : IVec S2048x2048 1) (main_v20 : IVec S2048 1) (main_v23 : IVec S2048x2048 1) (main_v26 : IVec S2048 1) (main_v29 : IVec S2048x2048 1) (main_v32 : IVec S2048 1) (main_v35 : IVec S2048x2048 1) : IVec S10000x128 1 × IVec S2048x128 1 × IVec S2048 1 × IVec S2048x128 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S128x2048 1 × IVec S128x2048 1 :=
  let main_v36 : FVec F S2048 .f32 := Host.absf main_arg13
  let main_cst_11 : FVec F S_ .f32 := constant S_ .f32 0x7F800000#32
  let main_v37 : FVec F S2048 .f32 := broadcastInDim S2048 ![] bcast_S_S2048 main_cst_11
  let main_v38 : IVec S2048 1 := cmpf .olt main_v36 main_v37
  let main_v39 : FVec F S2048x2048 .f32 := Host.absf main_arg14
  let main_cst_12 : FVec F S_ .f32 := constant S_ .f32 0x7F800000#32
  let main_v40 : FVec F S2048x2048 .f32 := broadcastInDim S2048x2048 ![] bcast_S_S2048x2048 main_cst_12
  let main_v41 : IVec S2048x2048 1 := cmpf .olt main_v39 main_v40
  let main_v42 : FVec F S2048 .f32 := Host.absf main_arg15
  let main_cst_13 : FVec F S_ .f32 := constant S_ .f32 0x7F800000#32
  let main_v43 : FVec F S2048 .f32 := broadcastInDim S2048 ![] bcast_S_S2048 main_cst_13
  let main_v44 : IVec S2048 1 := cmpf .olt main_v42 main_v43
  let main_v45 : FVec F S2048x2048 .f32 := Host.absf main_arg16
  let main_cst_14 : FVec F S_ .f32 := constant S_ .f32 0x7F800000#32
  let main_v46 : FVec F S2048x2048 .f32 := broadcastInDim S2048x2048 ![] bcast_S_S2048x2048 main_cst_14
  let main_v47 : IVec S2048x2048 1 := cmpf .olt main_v45 main_v46
  let main_v48 : FVec F S2048 .f32 := Host.absf main_arg17
  let main_cst_15 : FVec F S_ .f32 := constant S_ .f32 0x7F800000#32
  let main_v49 : FVec F S2048 .f32 := broadcastInDim S2048 ![] bcast_S_S2048 main_cst_15
  let main_v50 : IVec S2048 1 := cmpf .olt main_v48 main_v49
  let main_v51 : FVec F S128x2048 .f32 := Host.absf main_arg18
  let main_cst_16 : FVec F S_ .f32 := constant S_ .f32 0x7F800000#32
  let main_v52 : FVec F S128x2048 .f32 := broadcastInDim S128x2048 ![] bcast_S_S128x2048 main_cst_16
  let main_v53 : IVec S128x2048 1 := cmpf .olt main_v51 main_v52
  fn_part3 (F := F) main_arg20 main_v2 main_v5 main_v8 main_v11 main_v14 main_v17 main_v20 main_v23 main_v26 main_v29 main_v32 main_v35 main_v38 main_v41 main_v44 main_v47 main_v50 main_v53

def fn_part1 {F : FTy → Type} [FloatOps F] (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S2048x2048 .f32) (main_arg15 : FVec F S2048 .f32) (main_arg16 : FVec F S2048x2048 .f32) (main_arg17 : FVec F S2048 .f32) (main_arg18 : FVec F S128x2048 .f32) (main_arg20 : FVec F S128x2048 .f32) (main_v2 : IVec S10000x128 1) (main_v5 : IVec S2048x128 1) (main_v8 : IVec S2048 1) (main_v11 : IVec S2048x128 1) (main_v14 : IVec S2048 1) (main_v17 : IVec S2048x2048 1) : IVec S10000x128 1 × IVec S2048x128 1 × IVec S2048 1 × IVec S2048x128 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S128x2048 1 × IVec S128x2048 1 :=
  let main_v18 : FVec F S2048 .f32 := Host.absf main_arg7
  let main_cst_5 : FVec F S_ .f32 := constant S_ .f32 0x7F800000#32
  let main_v19 : FVec F S2048 .f32 := broadcastInDim S2048 ![] bcast_S_S2048 main_cst_5
  let main_v20 : IVec S2048 1 := cmpf .olt main_v18 main_v19
  let main_v21 : FVec F S2048x2048 .f32 := Host.absf main_arg8
  let main_cst_6 : FVec F S_ .f32 := constant S_ .f32 0x7F800000#32
  let main_v22 : FVec F S2048x2048 .f32 := broadcastInDim S2048x2048 ![] bcast_S_S2048x2048 main_cst_6
  let main_v23 : IVec S2048x2048 1 := cmpf .olt main_v21 main_v22
  let main_v24 : FVec F S2048 .f32 := Host.absf main_arg9
  let main_cst_7 : FVec F S_ .f32 := constant S_ .f32 0x7F800000#32
  let main_v25 : FVec F S2048 .f32 := broadcastInDim S2048 ![] bcast_S_S2048 main_cst_7
  let main_v26 : IVec S2048 1 := cmpf .olt main_v24 main_v25
  let main_v27 : FVec F S2048x2048 .f32 := Host.absf main_arg10
  let main_cst_8 : FVec F S_ .f32 := constant S_ .f32 0x7F800000#32
  let main_v28 : FVec F S2048x2048 .f32 := broadcastInDim S2048x2048 ![] bcast_S_S2048x2048 main_cst_8
  let main_v29 : IVec S2048x2048 1 := cmpf .olt main_v27 main_v28
  let main_v30 : FVec F S2048 .f32 := Host.absf main_arg11
  let main_cst_9 : FVec F S_ .f32 := constant S_ .f32 0x7F800000#32
  let main_v31 : FVec F S2048 .f32 := broadcastInDim S2048 ![] bcast_S_S2048 main_cst_9
  let main_v32 : IVec S2048 1 := cmpf .olt main_v30 main_v31
  let main_v33 : FVec F S2048x2048 .f32 := Host.absf main_arg12
  let main_cst_10 : FVec F S_ .f32 := constant S_ .f32 0x7F800000#32
  let main_v34 : FVec F S2048x2048 .f32 := broadcastInDim S2048x2048 ![] bcast_S_S2048x2048 main_cst_10
  let main_v35 : IVec S2048x2048 1 := cmpf .olt main_v33 main_v34
  fn_part2 (F := F) main_arg13 main_arg14 main_arg15 main_arg16 main_arg17 main_arg18 main_arg20 main_v2 main_v5 main_v8 main_v11 main_v14 main_v17 main_v20 main_v23 main_v26 main_v29 main_v32 main_v35

def fn {F : FTy → Type} [FloatOps F] (main_arg0 : FVec F S10000x128 .f32) (main_arg1 : IVec S2x320000 32) (main_arg2 : FVec F S2048x128 .f32) (main_arg3 : FVec F S2048 .f32) (main_arg4 : FVec F S2048x128 .f32) (main_arg5 : FVec F S2048 .f32) (main_arg6 : FVec F S2048x2048 .f32) (main_arg7 : FVec F S2048 .f32) (main_arg8 : FVec F S2048x2048 .f32) (main_arg9 : FVec F S2048 .f32) (main_arg10 : FVec F S2048x2048 .f32) (main_arg11 : FVec F S2048 .f32) (main_arg12 : FVec F S2048x2048 .f32) (main_arg13 : FVec F S2048 .f32) (main_arg14 : FVec F S2048x2048 .f32) (main_arg15 : FVec F S2048 .f32) (main_arg16 : FVec F S2048x2048 .f32) (main_arg17 : FVec F S2048 .f32) (main_arg18 : FVec F S128x2048 .f32) (main_arg19 : FVec F S128 .f32) (main_arg20 : FVec F S128x2048 .f32) (main_arg21 : FVec F S128 .f32) : IVec S10000x128 1 × IVec S2048x128 1 × IVec S2048 1 × IVec S2048x128 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S2048x2048 1 × IVec S2048 1 × IVec S128x2048 1 × IVec S128x2048 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S2048x128 .f32 := Host.absf main_arg2
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S2048 .f32 := Host.absf main_arg3
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x128 .f32 := Host.absf main_arg4
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_v12 : FVec F S2048 .f32 := Host.absf main_arg5
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S2048x2048 .f32 := Host.absf main_arg6
  let main_cst_4 : FVec F S_ .f32 := constant S_ .f32 0x7F800000#32
  let main_v16 : FVec F S2048x2048 .f32 := broadcastInDim S2048x2048 ![] bcast_S_S2048x2048 main_cst_4
  let main_v17 : IVec S2048x2048 1 := cmpf .olt main_v15 main_v16
  fn_part1 (F := F) main_arg7 main_arg8 main_arg9 main_arg10 main_arg11 main_arg12 main_arg13 main_arg14 main_arg15 main_arg16 main_arg17 main_arg18 main_arg20 main_v2 main_v5 main_v8 main_v11 main_v14 main_v17
-- ==== Kernel.lean ====
abbrev S10000x128 : Shape := ⟨2, ![10000, 128]⟩
abbrev S2x320000 : Shape := ⟨2, ![2, 320000]⟩
abbrev S2048x128 : Shape := ⟨2, ![2048, 128]⟩
abbrev S2048 : Shape := ⟨1, ![2048]⟩
abbrev S2048x2048 : Shape := ⟨2, ![2048, 2048]⟩
abbrev S128x2048 : Shape := ⟨2, ![128, 2048]⟩
abbrev S128 : Shape := ⟨1, ![128]⟩
abbrev S1x2048 : Shape := ⟨2, ![1, 2048]⟩
abbrev S1x128 : Shape := ⟨2, ![1, 128]⟩
abbrev S400x128 : Shape := ⟨2, ![400, 128]⟩
abbrev S256x2048 : Shape := ⟨2, ![256, 2048]⟩
abbrev S_ : Shape := ⟨0, ![]⟩
abbrev S256x128 : Shape := ⟨2, ![256, 128]⟩
abbrev S128x256 : Shape := ⟨2, ![128, 256]⟩
abbrev S2048x256 : Shape := ⟨2, ![2048, 256]⟩
abbrev S400x2048 : Shape := ⟨2, ![400, 2048]⟩

abbrev nBuf : Space → Nat
  | .hbm => 33
  | .vmem => 22
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S2048x128, .f32⟩
  | .hbm, ⟨3, _⟩ => ⟨S2048, .f32⟩
  | .hbm, ⟨4, _⟩ => ⟨S2048x128, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048, .f32⟩
  | .hbm, ⟨14, _⟩ => ⟨S2048x2048, .f32⟩
  | .hbm, ⟨15, _⟩ => ⟨S2048, .f32⟩
  | .hbm, ⟨16, _⟩ => ⟨S2048x2048, .f32⟩
  | .hbm, ⟨17, _⟩ => ⟨S2048, .f32⟩
  | .hbm, ⟨18, _⟩ => ⟨S128x2048, .f32⟩
  | .hbm, ⟨19, _⟩ => ⟨S128, .f32⟩
  | .hbm, ⟨20, _⟩ => ⟨S128x2048, .f32⟩
  | .hbm, ⟨21, _⟩ => ⟨S128, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S1x2048, .f32⟩
  | .hbm, ⟨28, _⟩ => ⟨S2048, .f32⟩
  | .hbm, ⟨29, _⟩ => ⟨S1x2048, .f32⟩
  | .hbm, ⟨30, _⟩ => ⟨S128, .f32⟩
  | .hbm, ⟨31, _⟩ => ⟨S1x128, .f32⟩
  | .hbm, ⟨32, _⟩ => ⟨S10000x128, .f32⟩
  | .local _ .vmem, ⟨0, _⟩ => ⟨S400x128, .f32⟩
  | .local _ .vmem, ⟨1, _⟩ => ⟨S400x128, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S128x2048, .bf16⟩
  | .local _ .vmem, ⟨10, _⟩ => ⟨S2048x2048, .bf16⟩
  | .local _ .vmem, ⟨11, _⟩ => ⟨S2048x2048, .bf16⟩
  | .local _ .vmem, ⟨12, _⟩ => ⟨S2048x2048, .bf16⟩
  | .local _ .vmem, ⟨13, _⟩ => ⟨S2048x128, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S10000x128 : Shape := ⟨2, ![10000, 128]⟩
abbrev S2x320000 : Shape := ⟨2, ![2, 320000]⟩
abbrev S2048x128 : Shape := ⟨2, ![2048, 128]⟩
abbrev S2048 : Shape := ⟨1, ![2048]⟩
abbrev S2048x2048 : Shape := ⟨2, ![2048, 2048]⟩
abbrev S128x2048 : Shape := ⟨2, ![128, 2048]⟩
abbrev S128 : Shape := ⟨1, ![128]⟩
abbrev S10000x2048 : Shape := ⟨2, ![10000, 2048]⟩
abbrev S1x2048 : Shape := ⟨2, ![1, 2048]⟩
abbrev S_ : Shape := ⟨0, ![]⟩
abbrev S1x128 : Shape := ⟨2, ![1, 128]⟩

abbrev nBuf : Space → Nat
  | .hbm => 137
  | .vmem => 0
  | .smem => 0
  | _ => 0

abbrev hbmTy0_0 (i : Nat) : BufTy := match i % 128 with
  | 0 => ⟨S10000x128, .f32⟩
  | 1 => ⟨S2x320000, .i32⟩
  | 2 => ⟨S2048x128, .f32⟩
  | 3 => ⟨S2048, .f32⟩
  | 4 => ⟨S2048x128, .f32⟩
  | 5 => ⟨S2048, .f32⟩
  | 6 => ⟨S2048x2048, .f32⟩
  | 7 => ⟨S2048, .f32⟩
  | 8 => ⟨S2048x2048, .f32⟩
  | 9 => ⟨S2048, .f32⟩
  | 10 => ⟨S2048x2048, .f32⟩
  | 11 => ⟨S2048, .f32⟩
  | 12 => ⟨S2048x2048, .f32⟩
  | 13 => ⟨S2048, .f32⟩
  | 14 => ⟨S2048x2048, .f32⟩
  | 15 => ⟨S2048, .f32⟩
  | 16 => ⟨S2048x2048, .f32⟩
  | 17 => ⟨S2048, .f32⟩
  | 18 => ⟨S128x2048, .f32⟩
  | 19 => ⟨S128, .f32⟩
  | 20 => ⟨S128x2048, .f32⟩
  | 21 => ⟨S128, .f32⟩
  | 22 => ⟨S128x2048, .f32⟩
  | 23 => ⟨S10000x2048, .f32⟩
  | 24 => ⟨S1x2048, .f32⟩
  | 25 => ⟨S10000x2048, .f32⟩
  | 26 => ⟨S10000x2048, .f32⟩
  | 27 => ⟨S128x2048, .f32⟩
  | 28 => ⟨S10000x2048, .f32⟩
  | 29 => ⟨S1x2048, .f32⟩
  | 30 => ⟨S10000x2048, .f32⟩
  | 31 => ⟨S10000x2048, .f32⟩
  | 32 => ⟨S10000x2048, .f32⟩
  | 33 => ⟨S_, .f32⟩
  | 34 => ⟨S10000x2048, .f32⟩
  | 35 => ⟨S10000x2048, .i1⟩
  | 36 => ⟨S_, .f32⟩
  | 37 => ⟨S10000x2048, .f32⟩
  | 38 => ⟨S10000x2048, .i1⟩
  | 39 => ⟨S_, .f32⟩
  | 40 => ⟨S_, .f32⟩
  | 41 => ⟨S10000x2048, .f32⟩
  | 42 => ⟨S10000x2048, .f32⟩
  | 43 => ⟨S10000x2048, .f32⟩
  | 44 => ⟨S_, .f32⟩
  | 45 => ⟨S10000x2048, .f32⟩
  | 46 => ⟨S10000x2048, .f32⟩
  | 47 => ⟨S10000x2048, .f32⟩
  | 48 => ⟨S2048x2048, .f32⟩
  | 49 => ⟨S10000x2048, .f32⟩
  | 50 => ⟨S1x2048, .f32⟩
  | 51 => ⟨S10000x2048, .f32⟩
  | 52 => ⟨S10000x2048, .f32⟩
  | 53 => ⟨S2048x2048, .f32⟩
  | 54 => ⟨S10000x2048, .f32⟩
  | 55 => ⟨S1x2048, .f32⟩
  | 56 => ⟨S10000x2048, .f32⟩
  | 57 => ⟨S10000x2048, .f32⟩
  | 58 => ⟨S10000x2048, .f32⟩
  | 59 => ⟨S_, .f32⟩
  | 60 => ⟨S10000x2048, .f32⟩
  | 61 => ⟨S10000x2048, .i1⟩
  | 62 => ⟨S_, .f32⟩
  | 63 => ⟨S10000x2048, .f32⟩
  | 64 => ⟨S10000x2048, .i1⟩
  | 65 => ⟨S_, .f32⟩
  | 66 => ⟨S_, .f32⟩
  | 67 => ⟨S10000x2048, .f32⟩
  | 68 => ⟨S10000x2048, .f32⟩
  | 69 => ⟨S10000x2048, .f32⟩
  | 70 => ⟨S_, .f32⟩
  | 71 => ⟨S10000x2048, .f32⟩
  | 72 => ⟨S10000x2048, .f32⟩
  | 73 => ⟨S10000x2048, .f32⟩
  | 74 => ⟨S2048x2048, .f32⟩
  | 75 => ⟨S10000x2048, .f32⟩
  | 76 => ⟨S1x2048, .f32⟩
  | 77 => ⟨S10000x2048, .f32⟩
  | 78 => ⟨S10000x2048, .f32⟩
  | 79 => ⟨S2048x2048, .f32⟩
  | 80 => ⟨S10000x2048, .f32⟩
  | 81 => ⟨S1x2048, .f32⟩
  | 82 => ⟨S10000x2048, .f32⟩
  | 83 => ⟨S10000x2048, .f32⟩
  | 84 => ⟨S10000x2048, .f32⟩
  | 85 => ⟨S_, .f32⟩
  | 86 => ⟨S10000x2048, .f32⟩
  | 87 => ⟨S10000x2048, .i1⟩
  | 88 => ⟨S_, .f32⟩
  | 89 => ⟨S10000x2048, .f32⟩
  | 90 => ⟨S10000x2048, .i1⟩
  | 91 => ⟨S_, .f32⟩
  | 92 => ⟨S_, .f32⟩
  | 93 => ⟨S10000x2048, .f32⟩
  | 94 => ⟨S10000x2048, .f32⟩
  | 95 => ⟨S10000x2048, .f32⟩
  | 96 => ⟨S_, .f32⟩
  | 97 => ⟨S10000x2048, .f32⟩
  | 98 => ⟨S10000x2048, .f32⟩
  | 99 => ⟨S10000x2048, .f32⟩
  | 100 => ⟨S2048x2048, .f32⟩
  | 101 => ⟨S10000x2048, .f32⟩
  | 102 => ⟨S1x2048, .f32⟩
  | 103 => ⟨S10000x2048, .f32⟩
  | 104 => ⟨S10000x2048, .f32⟩
  | 105 => ⟨S2048x2048, .f32⟩
  | 106 => ⟨S10000x2048, .f32⟩
  | 107 => ⟨S1x2048, .f32⟩
  | 108 => ⟨S10000x2048, .f32⟩
  | 109 => ⟨S10000x2048, .f32⟩
  | 110 => ⟨S10000x2048, .f32⟩
  | 111 => ⟨S_, .f32⟩
  | 112 => ⟨S10000x2048, .f32⟩
  | 113 => ⟨S10000x2048, .i1⟩
  | 114 => ⟨S_, .f32⟩
  | 115 => ⟨S10000x2048, .f32⟩
  | 116 => ⟨S10000x2048, .i1⟩
  | 117 => ⟨S_, .f32⟩
  | 118 => ⟨S_, .f32⟩
  | 119 => ⟨S10000x2048, .f32⟩
  | 120 => ⟨S10000x2048, .f32⟩
  | 121 => ⟨S10000x2048, .f32⟩
  | 122 => ⟨S_, .f32⟩
  | 123 => ⟨S10000x2048, .f32⟩
  | 124 => ⟨S10000x2048, .f32⟩
  | 125 => ⟨S10000x2048, .f32⟩
  | 126 => ⟨S2048x128, .f32⟩
  | 127 => ⟨S10000x128, .f32⟩
  | _ => ⟨S10000x128, .f32⟩

abbrev hbmTy0_1 (i : Nat) : BufTy := match i % 128 with
  | 0 => ⟨S1x128, .f32⟩
  | 1 => ⟨S10000x128, .f32⟩
  | 2 => ⟨S10000x128, .f32⟩
  | 3 => ⟨S2048x128, .f32⟩
  | 4 => ⟨S10000x128, .f32⟩
  | 5 => ⟨S1x128, .f32⟩
  | 6 => ⟨S10000x128, .f32⟩
  | 7 => ⟨S10000x128, .f32⟩
  | 8 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_cst_1 : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_v4 : Ref sig .tc := ⟨.hbm, 42, rfl⟩
abbrev main_call0_v5 : Ref sig .tc := ⟨.hbm, 43, rfl⟩
abbrev main_call0_cst_2 : Ref sig .tc := ⟨.hbm, 44, rfl⟩
abbrev main_call0_v6 : Ref sig .tc := ⟨.hbm, 45, rfl⟩
abbrev main_call0_v7 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_cst_1 : Ref sig .tc := ⟨.hbm, 65, rfl⟩
abbrev main_call1_call0_v0 : Ref sig .tc := ⟨.hbm, 66, rfl⟩
abbrev main_call1_call0_v1 : Ref sig .tc := ⟨.hbm, 67, rfl⟩
abbrev main_call1_v4 : Ref sig .tc := ⟨.hbm, 68, rfl⟩
abbrev main_call1_v5 : Ref sig .tc := ⟨.hbm, 69, rfl⟩
abbrev main_call1_cst_2 : Ref sig .tc := ⟨.hbm, 70, rfl⟩
abbrev main_call1_v6 : Ref sig .tc := ⟨.hbm, 71, rfl⟩
abbrev main_call1_v7 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_cst_0 : Ref sig .tc := ⟨.hbm, 88, rfl⟩
abbrev main_call2_v2 : Ref sig .tc := ⟨.hbm, 89, rfl⟩
abbrev main_call2_v3 : Ref sig .tc := ⟨.hbm, 90, rfl⟩
abbrev main_call2_cst_1 : Ref sig .tc := ⟨.hbm, 91, rfl⟩
abbrev main_call2_call0_v0 : Ref sig .tc := ⟨.hbm, 92, rfl⟩
abbrev main_call2_call0_v1 : Ref sig .tc := ⟨.hbm, 93, rfl⟩
abbrev main_call2_v4 : Ref sig .tc := ⟨.hbm, 94, rfl⟩
abbrev main_call2_v5 : Ref sig .tc := ⟨.hbm, 95, rfl⟩
abbrev main_call2_cst_2 : Ref sig .tc := ⟨.hbm, 96, rfl⟩
abbrev main_call2_v6 : Ref sig .tc := ⟨.hbm, 97, rfl⟩
abbrev main_call2_v7 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_call3_cst : Ref sig .tc := ⟨.hbm, 111, rfl⟩
abbrev main_call3_v0 : Ref sig .tc := ⟨.hbm, 112, rfl⟩
abbrev main_call3_v1 : Ref sig .tc := ⟨.hbm, 113, rfl⟩
abbrev main_call3_cst_0 : Ref sig .tc := ⟨.hbm, 114, rfl⟩
abbrev main_call3_v2 : Ref sig .tc := ⟨.hbm, 115, rfl⟩
abbrev main_call3_v3 : Ref sig .tc := ⟨.hbm, 116, rfl⟩
abbrev main_call3_cst_1 : Ref sig .tc := ⟨.hbm, 117, rfl⟩
abbrev main_call3_call0_v0 : Ref sig .tc := ⟨.hbm, 118, rfl⟩
abbrev main_call3_call0_v1 : Ref sig .tc := ⟨.hbm, 119, rfl⟩
abbrev main_call3_v4 : Ref sig .tc := ⟨.hbm, 120, rfl⟩
abbrev main_call3_v5 : Ref sig .tc := ⟨.hbm, 121, rfl⟩
abbrev main_call3_cst_2 : Ref sig .tc := ⟨.hbm, 122, rfl⟩
abbrev main_call3_v6 : Ref sig .tc := ⟨.hbm, 123, rfl⟩
abbrev main_call3_v7 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_v57 : Ref sig .tc := ⟨.hbm, 135, rfl⟩
abbrev main_v58 : Ref sig .tc := ⟨.hbm, 136, rfl⟩

abbrev nD : Nat := 1
abbrev τ : Topo := Topo.v7x

variable {F : FTy → Type} [FloatOps F]
-- ==== Proof.Layer.lean ====
/-
  One layer of the network over the extended reals, on rows: the activation, a layer whose two weight matrices are
  added first, a layer whose two products are added afterwards, and the equation between the two on finite data.
-/
module

public import Idealize.ShloMosaic.PureOps.Ideal.Laws

@[expose] public section

noncomputable section

open Idealize.ShloMosaic

namespace Cert.Layer

/-- The activation as the kernel spells it: `x` where it is positive, `exp (min x 0) - 1` elsewhere. -/
def elu (x : EReal) : EReal := if 0 < x then x else Ideal.exp (min x 0) - 1

/-- An affine map with one weight matrix, the weights of output `j` in column `j`. -/
def affine {k n : ℕ} (h : Fin k → EReal) (w : Fin k → Fin n → EReal) (b : Fin n → EReal) (j : Fin n) : EReal :=
  ∑ i, h i * w i j + b j

/-- The sum of two affine maps of the same row, the weights of output `j` in row `j`. -/
def twin {k n : ℕ} (h : Fin k → EReal) (g l : Fin n → Fin k → EReal) (bg bl : Fin n → EReal) (j : Fin n) : EReal :=
  (∑ i, h i * g j i + bg j) + (∑ i, h i * l j i + bl j)

/-- A hidden layer with one weight matrix: the affine map, then the activation. -/
def layer {k n : ℕ} (h : Fin k → EReal) (w : Fin k → Fin n → EReal) (b : Fin n → EReal) (j : Fin n) : EReal :=
  elu (affine h w b j)

/-- A hidden layer with two weight matrices: the sum of the two affine maps, then the activation. -/
def twinLayer {k n : ℕ} (h : Fin k → EReal) (g l : Fin n → Fin k → EReal) (bg bl : Fin n → EReal) (j : Fin n) : EReal :=
  elu (twin h g l bg bl j)

/-- The network on one row, one weight matrix for each layer: four hidden layers and an affine map. -/
def mlp {d k o : ℕ} (w1 : Fin d → Fin k → EReal) (b1 : Fin k → EReal) (w2 : Fin k → Fin k → EReal) (b2 : Fin k → EReal)
    (w3 : Fin k → Fin k → EReal) (b3 : Fin k → EReal) (w4 : Fin k → Fin k → EReal) (b4 : Fin k → EReal)
    (w5 : Fin k → Fin o → EReal) (b5 : Fin o → EReal) (h : Fin d → EReal) : Fin o → EReal :=
  affine (layer (layer (layer (layer h w1 b1) w2 b2) w3 b3) w4 b4) w5 b5

/-- Neither of the two infinities. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, by norm_cast⟩

theorem IsReal.mul {x y : EReal} (hx : IsReal x) (hy : IsReal y) : IsReal (x * y) := by
  obtain ⟨a, rfl⟩ := hx
  obtain ⟨b, rfl⟩ := hy
  exact ⟨a * b, by norm_cast⟩

theorem IsReal.sum {ι : Type*} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A number whose absolute value lies below the upper infinity is a real. -/
theorem isReal_of_abs_lt {x : EReal} (h : max x (-x) < ⊤) : IsReal x := by
  induction x with
  | bot => simp at h
  | top => simp at h
  | coe r => exact ⟨r, rfl⟩

/-- The activation of a real is a real. -/
theorem IsReal.elu {x : EReal} (hx : IsReal x) : IsReal (elu x) := by
  obtain ⟨a, rfl⟩ := hx
  unfold Layer.elu
  split
  · exact ⟨a, rfl⟩
  · refine ⟨Real.exp (min a 0) - 1, ?_⟩
    have : min (a : EReal) 0 = ((min a 0 : ℝ) : EReal) := by
      rcases le_total a 0 with h | h
      · rw [min_eq_left h, min_eq_left (by exact_mod_cast h)]
      · rw [min_eq_right h, min_eq_right (by exact_mod_cast h)]; rfl
    rw [this]
    show ((Real.exp (min a 0) : ℝ) : EReal) - 1 = _
    norm_cast

/-- The reference's spelling of the activation (`exp x - 1` of `x` with its positive values replaced by zero, times
    one) is the kernel's. -/
theorem elu_eq (x : EReal) :
    (if 0 < x then x else 1 * (Ideal.exp (if 0 < x then 0 else x) - 1)) = elu x := by
  unfold elu
  split_ifs with h
  · rfl
  · rw [one_mul, min_eq_left (not_lt.mp h)]

/-- A real factor distributes over a sum of two reals. -/
theorem IsReal.mul_add {x y z : EReal} (hx : IsReal x) (hy : IsReal y) (hz : IsReal z) :
    x * (y + z) = x * y + x * z := by
  obtain ⟨a, rfl⟩ := hx
  obtain ⟨b, rfl⟩ := hy
  obtain ⟨c, rfl⟩ := hz
  norm_cast
  rw [_root_.mul_add]

/-- Adding the two weight matrices and the two biases first gives the sum of the two affine maps, on real rows and
    weights. -/
theorem affine_eq_twin {k n : ℕ} (h : Fin k → EReal) (g l : Fin n → Fin k → EReal) (bg bl : Fin n → EReal)
    (hh : ∀ i, IsReal (h i)) (hg : ∀ j i, IsReal (g j i)) (hl : ∀ j i, IsReal (l j i)) :
    affine h (fun i j => g j i + l j i) (fun j => bg j + bl j) = twin h g l bg bl := by
  funext j
  unfold affine twin
  rw [Finset.sum_congr rfl fun i _ => (hh i).mul_add (hg j i) (hl j i), Finset.sum_add_distrib, add_add_add_comm]

/-- The sum of two affine maps of a real row with real weights and biases is a real. -/
theorem twin_isReal {k n : ℕ} (h : Fin k → EReal) (g l : Fin n → Fin k → EReal) (bg bl : Fin n → EReal)
    (hh : ∀ i, IsReal (h i)) (hg : ∀ j i, IsReal (g j i)) (hl : ∀ j i, IsReal (l j i)) (hbg : ∀ j, IsReal (bg j))
    (hbl : ∀ j, IsReal (bl j)) (j : Fin n) : IsReal (twin h g l bg bl j) :=
  ((IsReal.sum _ _ fun i => (hh i).mul (hg j i)).add (hbg j)).add
    ((IsReal.sum _ _ fun i => (hh i).mul (hl j i)).add (hbl j))

end Cert.Layer

end
-- ==== Proof.Weights.lean ====
module

public import proofs.«01_k».proof.Proof.Gen.KernelIdeal.Frame.RunA
public import Idealize.ShloMosaic.Lib.Pipeline.Value
public import Idealize.ShloMosaic.Lib.Pipeline.ValueKit
public import Idealize.ShloMosaic.Lib.Pipeline.ReadBack

/-! # What the first grid point leaves in the weight buffers

At the first grid point the kernel copies the two weight matrices of every layer block by block from HBM, adds
them, transposes the sum and stores it as one column block of the layer's weight buffer.  Here each of the five
buffers is shown to hold, after all blocks are stored, the transposed sum of the two whole matrices. -/

@[expose] public section

set_option maxRecDepth 16384

noncomputable section

namespace Cert.KernelIdeal.Fused

open Idealize.ShloMosaic Idealize.ShloMosaic.TcCoe Idealize.SL.Sem Cert.KernelIdeal Cert.KernelIdeal.Gen

/-- The fused weight of a layer: the sum of the two weight matrices, transposed. -/
def fuse {n k : ℕ} (g l : Shape.Idx ⟨2, ![n, k]⟩ → EReal) : Shape.Idx ⟨2, ![k, n]⟩ → EReal :=
  fun z => g (ix2 (z 1) (z 0)) + l (ix2 (z 1) (z 0))

/-- Writes that cover a buffer and each agree with `G` on their own rectangle leave `G` in the buffer. -/
theorem canon_eq {s : Shape} {e : EltTy} (G : s.Idx → Elt Ideal e) (L : List (View.Piece (Elt Ideal) s e))
    (hL : ∀ y : s.Idx, ∃ p ∈ L, y ∈ p.1.set) (hG : View.PiecesOf G L) : View.canon L = G := by
  funext y
  have := View.canon_append_of_piecesOf G [] L hG y (hL y)
  rwa [List.append_nil] at this

/-- One stored block of the first layer's weights, entry by entry. -/
theorem block_first (a b : Vec Ideal S256x128 .f32) (x) : k0_pay2 a b x = fuse (n := 256) (k := 128) a b x := by
  pointwise [k0_pay2, fuse]

/-- One stored block of a middle layer's weights, entry by entry. -/
theorem block_middle (a b : Vec Ideal S256x2048 .f32) (x) :
    k0_pay11 a b x = fuse (n := 256) (k := 2048) a b x := by
  pointwise [k0_pay11, fuse]

/-- The one stored block of the last layer's weights, entry by entry. -/
theorem block_last (a b : Vec Ideal S128x2048 .f32) (x) :
    k0_pay38 (k0_pay37 a b) x = fuse (n := 128) (k := 2048) a b x := by
  pointwise [k0_pay37, k0_pay38, fuse]

/-- The first grid point's run of the body, at the operands the pipeline hands it. -/
abbrev runA (c : Dev nD) (t : Fin cfg0.N) (h : cond0_0 (grid0.coords t))
    (x0 : Vec Ideal S400x128 .f32) (x1 : Vec Ideal S1x2048 .f32) (x2 : Vec Ideal S1x2048 .f32) (x3 : Vec Ideal S1x2048 .f32) (x4 : Vec Ideal S1x2048 .f32) (x5 : Vec Ideal S1x128 .f32) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5) (fh6 : HbBuf0 (F := Ideal) c hbM0_6) (fh7 : HbBuf0 (F := Ideal) c hbM0_7) (fh8 : HbBuf0 (F := Ideal) c hbM0_8) (fh9 : HbBuf0 (F := Ideal) c hbM0_9) :=
  kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) h x0 x1 x2 x3 x4 x5 fh0 fh1 fh2 fh3 fh4 fh5 fh6 fh7 fh8 fh9

variable (c : Dev nD) (t : Fin cfg0.N) (h : cond0_0 (grid0.coords t))
    (x0 : Vec Ideal S400x128 .f32) (x1 : Vec Ideal S1x2048 .f32) (x2 : Vec Ideal S1x2048 .f32) (x3 : Vec Ideal S1x2048 .f32) (x4 : Vec Ideal S1x2048 .f32) (x5 : Vec Ideal S1x128 .f32) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5) (fh6 : HbBuf0 (F := Ideal) c hbM0_6) (fh7 : HbBuf0 (F := Ideal) c hbM0_7) (fh8 : HbBuf0 (F := Ideal) c hbM0_8) (fh9 : HbBuf0 (F := Ideal) c hbM0_9)

/-- The stores of the first grid point cover the weight buffer of the first layer. -/
theorem covers_first (y : S128x2048.Idx) :
    ∃ p ∈ (runA c t h x0 x1 x2 x3 x4 x5 fh0 fh1 fh2 fh3 fh4 fh5 fh6 fh7 fh8 fh9).2.1, y ∈ p.1.set :=
  View.cover_of_tiledL (s := S128x2048) _ S128x256.size (by sl_kernel_rfl) y

/-- The weight buffer of the first layer after the first grid point. -/
theorem weights_first :
    View.canon (runA c t h x0 x1 x2 x3 x4 x5 fh0 fh1 fh2 fh3 fh4 fh5 fh6 fh7 fh8 fh9).2.1
      = fuse (n := 2048) (k := 128) fh0 fh1 := by
  refine canon_eq (s := S128x2048) (e := .bf16) (fuse (n := 2048) (k := 128) fh0 fh1) _
    (covers_first c t h x0 x1 x2 x3 x4 x5 fh0 fh1 fh2 fh3 fh4 fh5 fh6 fh7 fh8 fh9) ?_
  unfold runA kernelRun0_A
  dsimp only
  sl_unfold_words
  simp (disch := decide) only [↓ View.readCov_cons_toLoadRect]
  refine ⟨?_, ?_, ?_, ?_, ?_, ?_, ?_, ?_, trivial⟩ <;> intro x <;>
    refine (block_first _ _ x).trans (congrArg₂ (· + ·) (congrArg fh0 (funext fun i => ?_))
      (congrArg fh1 (funext fun i => ?_))) <;> fin_cases i <;> rfl

/-- The stores of the first grid point cover the weight buffer of the second layer. -/
theorem covers_second (y : S2048x2048.Idx) :
    ∃ p ∈ (runA c t h x0 x1 x2 x3 x4 x5 fh0 fh1 fh2 fh3 fh4 fh5 fh6 fh7 fh8 fh9).2.2.1, y ∈ p.1.set :=
  View.cover_of_tiledL (s := S2048x2048) _ S2048x256.size (by sl_kernel_rfl) y

/-- The weight buffer of the second layer after the first grid point. -/
theorem weights_second :
    View.canon (runA c t h x0 x1 x2 x3 x4 x5 fh0 fh1 fh2 fh3 fh4 fh5 fh6 fh7 fh8 fh9).2.2.1
      = fuse (n := 2048) (k := 2048) fh2 fh3 := by
  refine canon_eq (s := S2048x2048) (e := .bf16) (fuse (n := 2048) (k := 2048) fh2 fh3) _
    (covers_second c t h x0 x1 x2 x3 x4 x5 fh0 fh1 fh2 fh3 fh4 fh5 fh6 fh7 fh8 fh9) ?_
  unfold runA kernelRun0_A
  dsimp only
  sl_unfold_words
  simp (disch := decide) only [↓ View.readCov_cons_toLoadRect]
  refine ⟨?_, ?_, ?_, ?_, ?_, ?_, ?_, ?_, trivial⟩ <;> intro x <;>
    refine (block_middle _ _ x).trans (congrArg₂ (· + ·) (congrArg fh2 (funext fun i => ?_))
      (congrArg fh3 (funext fun i => ?_))) <;> fin_cases i <;> rfl

/-- The stores of the first grid point cover the weight buffer of the third layer. -/
theorem covers_third (y : S2048x2048.Idx) :
    ∃ p ∈ (runA c t h x0 x1 x2 x3 x4 x5 fh0 fh1 fh2 fh3 fh4 fh5 fh6 fh7 fh8 fh9).2.2.2.1, y ∈ p.1.set :=
  View.cover_of_tiledL (s := S2048x2048) _ S2048x256.size (by sl_kernel_rfl) y

/-- The weight buffer of the third layer after the first grid point. -/
theorem weights_third :
    View.canon (runA c t h x0 x1 x2 x3 x4 x5 fh0 fh1 fh2 fh3 fh4 fh5 fh6 fh7 fh8 fh9).2.2.2.1
      = fuse (n := 2048) (k := 2048) fh4 fh5 := by
  refine canon_eq (s := S2048x2048) (e := .bf16) (fuse (n := 2048) (k := 2048) fh4 fh5) _
    (covers_third c t h x0 x1 x2 x3 x4 x5 fh0 fh1 fh2 fh3 fh4 fh5 fh6 fh7 fh8 fh9) ?_
  unfold runA kernelRun0_A
  dsimp only
  sl_unfold_words
  simp (disch := decide) only [↓ View.readCov_cons_toLoadRect]
  refine ⟨?_, ?_, ?_, ?_, ?_, ?_, ?_, ?_, trivial⟩ <;> intro x <;>
    refine (block_middle _ _ x).trans (congrArg₂ (· + ·) (congrArg fh4 (funext fun i => ?_))
      (congrArg fh5 (funext fun i => ?_))) <;> fin_cases i <;> rfl

/-- The stores of the first grid point cover the weight buffer of the fourth layer. -/
theorem covers_fourth (y : S2048x2048.Idx) :
    ∃ p ∈ (runA c t h x0 x1 x2 x3 x4 x5 fh0 fh1 fh2 fh3 fh4 fh5 fh6 fh7 fh8 fh9).2.2.2.2.1, y ∈ p.1.set :=
  View.cover_of_tiledL (s := S2048x2048) _ S2048x256.size (by sl_kernel_rfl) y

/-- The weight buffer of the fourth layer after the first grid point. -/
theorem weights_fourth :
    View.canon (runA c t h x0 x1 x2 x3 x4 x5 fh0 fh1 fh2 fh3 fh4 fh5 fh6 fh7 fh8 fh9).2.2.2.2.1
      = fuse (n := 2048) (k := 2048) fh6 fh7 := by
  refine canon_eq (s := S2048x2048) (e := .bf16) (fuse (n := 2048) (k := 2048) fh6 fh7) _
    (covers_fourth c t h x0 x1 x2 x3 x4 x5 fh0 fh1 fh2 fh3 fh4 fh5 fh6 fh7 fh8 fh9) ?_
  unfold runA kernelRun0_A
  dsimp only
  sl_unfold_words
  simp (disch := decide) only [↓ View.readCov_cons_toLoadRect]
  refine ⟨?_, ?_, ?_, ?_, ?_, ?_, ?_, ?_, trivial⟩ <;> intro x <;>
    refine (block_middle _ _ x).trans (congrArg₂ (· + ·) (congrArg fh6 (funext fun i => ?_))
      (congrArg fh7 (funext fun i => ?_))) <;> fin_cases i <;> rfl

/-- The stores of the first grid point cover the weight buffer of the fifth layer. -/
theorem covers_fifth (y : S2048x128.Idx) :
    ∃ p ∈ (runA c t h x0 x1 x2 x3 x4 x5 fh0 fh1 fh2 fh3 fh4 fh5 fh6 fh7 fh8 fh9).2.2.2.2.2.1, y ∈ p.1.set :=
  View.cover_of_tiledL (s := S2048x128) _ S2048x128.size (by sl_kernel_rfl) y

/-- The weight buffer of the fifth layer after the first grid point. -/
theorem weights_fifth :
    View.canon (runA c t h x0 x1 x2 x3 x4 x5 fh0 fh1 fh2 fh3 fh4 fh5 fh6 fh7 fh8 fh9).2.2.2.2.2.1
      = fuse (n := 128) (k := 2048) fh8 fh9 := by
  refine canon_eq (s := S2048x128) (e := .bf16) (fuse (n := 128) (k := 2048) fh8 fh9) _
    (covers_fifth c t h x0 x1 x2 x3 x4 x5 fh0 fh1 fh2 fh3 fh4 fh5 fh6 fh7 fh8 fh9) ?_
  unfold runA kernelRun0_A
  dsimp only
  sl_unfold_words
  simp (disch := decide) only [↓ View.readCov_cons_toLoadRect]
  refine ⟨?_, trivial⟩ <;> intro x <;>
    refine (block_last _ _ x).trans (congrArg₂ (· + ·) (congrArg fh8 (funext fun i => ?_))
      (congrArg fh9 (funext fun i => ?_))) <;> fin_cases i <;> rfl

end Cert.KernelIdeal.Fused

end
-- ==== Proof.Block.lean ====
module

public import proofs.«01_k».proof.Proof.Layer
public import proofs.«01_k».proof.Proof.Weights
public import proofs.«01_k».proof.Proof.Gen.KernelIdeal.Frame.RunB
public import Idealize.ShloMosaic.Lib.VecWindow

@[expose] public section

set_option maxRecDepth 16384

noncomputable section

namespace Cert.KernelIdeal.Fused

open Idealize.ShloMosaic Idealize.ShloMosaic.TcCoe Idealize.SL.Sem Cert.KernelIdeal Cert.KernelIdeal.Gen
open Cert.Layer

/-- The kernel's activation, entry by entry. -/
theorem act_eq {s : Shape} (z : FVec Ideal s .f32) :
    select (cmpf .ogt z (broadcast s (Scalar.ofBits .f32 0x00000000#32))) z
      (subf (exp (minimumf z (broadcast s (Scalar.ofBits .f32 0x00000000#32)))) (broadcast s (Scalar.ofBits .f32 0x3F800000#32)))
      = fun j => elu (z j) := by
  funext j
  pointwise [elu]

/-- The first layer before its activation, entry by entry. -/
theorem pre_first (h : FVec Ideal S400x128 .bf16) (w : FVec Ideal S128x2048 .bf16) (b : Vec Ideal S1x2048 .f32) :
    addf (matmul dot_S400x128_S128x2048_S400x2048_1_0_0_1_n_n none h w (constant S400x2048 .f32 0x00000000#32))
      (broadcastTo S400x2048 (shapeCast S1x2048 b shapeCasts_S1x2048_S1x2048) broadcasts_S1x2048_S400x2048)
      = fun j => affine (fun k : Fin 128 => h (ix2 (j 0) k)) (fun k q => w (ix2 k q))
          (fun q : Fin 2048 => b (ix2 0 q)) (j 1) := by
  funext j
  pointwise [affine]

/-- A middle layer before its activation, entry by entry. -/
theorem pre_middle (h : FVec Ideal S400x2048 .bf16) (w : FVec Ideal S2048x2048 .bf16) (b : Vec Ideal S1x2048 .f32) :
    addf (matmul dot_S400x2048_S2048x2048_S400x2048_1_0_0_1_n_n none h w (constant S400x2048 .f32 0x00000000#32))
      (broadcastTo S400x2048 (shapeCast S1x2048 b shapeCasts_S1x2048_S1x2048) broadcasts_S1x2048_S400x2048)
      = fun j => affine (fun k : Fin 2048 => h (ix2 (j 0) k)) (fun k q => w (ix2 k q))
          (fun q : Fin 2048 => b (ix2 0 q)) (j 1) := by
  funext j
  pointwise [affine]

/-- The last layer, entry by entry. -/
theorem pre_last (h : FVec Ideal S400x2048 .bf16) (w : FVec Ideal S2048x128 .bf16) (b : Vec Ideal S1x128 .f32) :
    addf (matmul dot_S400x2048_S2048x128_S400x128_1_0_0_1_n_n none h w (constant S400x128 .f32 0x00000000#32))
      (broadcastTo S400x128 (shapeCast S1x128 b shapeCasts_S1x128_S1x128) broadcasts_S1x128_S400x128)
      = fun j => affine (fun k : Fin 2048 => h (ix2 (j 0) k)) (fun k q => w (ix2 k q))
          (fun q : Fin 128 => b (ix2 0 q)) (j 1) := by
  funext j
  pointwise [affine]

/-- The first two layers of one block of rows, entry by entry. -/
theorem hidden_eq (x : Vec Ideal S400x128 .f32) (w1 : Vec Ideal S128x2048 .bf16) (b1 : Vec Ideal S1x2048 .f32)
    (w2 : Vec Ideal S2048x2048 .bf16) (b2 : Vec Ideal S1x2048 .f32) :
    k0_pay39 x w1 b1 w2 b2 = fun j => layer (layer (fun i : Fin 128 => x (ix2 (j 0) i)) (fun i q => w1 (ix2 i q))
      (fun q : Fin 2048 => b1 (ix2 0 q))) (fun i q => w2 (ix2 i q)) (fun q : Fin 2048 => b2 (ix2 0 q)) (j 1) := by
  unfold k0_pay39
  dsimp only
  rw [pre_first, act_eq, pre_middle, act_eq]
  rfl

/-- What one block of 400 rows of the result holds, from its rows of the argument and the weights and biases. -/
def blockOut (x : Vec Ideal S400x128 .f32) (w1 : Vec Ideal S128x2048 .bf16) (b1 : Vec Ideal S1x2048 .f32)
    (w2 : Vec Ideal S2048x2048 .bf16) (b2 : Vec Ideal S1x2048 .f32) (w3 : Vec Ideal S2048x2048 .bf16)
    (b3 : Vec Ideal S1x2048 .f32) (w4 : Vec Ideal S2048x2048 .bf16) (b4 : Vec Ideal S1x2048 .f32)
    (w5 : Vec Ideal S2048x128 .bf16) (b5 : Vec Ideal S1x128 .f32) : Vec Ideal S400x128 .f32 := fun j =>
  mlp (fun i q => w1 (ix2 i q)) (fun q : Fin 2048 => b1 (ix2 0 q)) (fun i q => w2 (ix2 i q)) (fun q => b2 (ix2 0 q))
    (fun i q => w3 (ix2 i q)) (fun q => b3 (ix2 0 q)) (fun i q => w4 (ix2 i q)) (fun q => b4 (ix2 0 q))
    (fun i q => w5 (ix2 i q)) (fun q : Fin 128 => b5 (ix2 0 q)) (fun i : Fin 128 => x (ix2 (j 0) i)) (j 1)

/-- The stored value of a block is the network applied to each of its rows. -/
theorem stored_eq (x : Vec Ideal S400x128 .f32) (w1 : Vec Ideal S128x2048 .bf16) (b1 : Vec Ideal S1x2048 .f32)
    (w2 : Vec Ideal S2048x2048 .bf16) (b2 : Vec Ideal S1x2048 .f32) (w3 : Vec Ideal S2048x2048 .bf16)
    (b3 : Vec Ideal S1x2048 .f32) (w4 : Vec Ideal S2048x2048 .bf16) (b4 : Vec Ideal S1x2048 .f32)
    (w5 : Vec Ideal S2048x128 .bf16) (b5 : Vec Ideal S1x128 .f32) :
    k0_pay1 (k0_pay39 x w1 b1 w2 b2) w3 b3 w4 b4 w5 b5 = blockOut x w1 b1 w2 b2 w3 b3 w4 b4 w5 b5 := by
  rw [hidden_eq]
  unfold k0_pay1
  dsimp only
  rw [pre_middle, act_eq, pre_middle, act_eq, pre_last]
  rfl

variable (c : Dev nD) (t : Fin cfg0.N)
/-- A load of a whole buffer reads what the writes before it leave. -/
theorem load_written {sp : Space} {s : Shape} {e : EltTy} (v : View sig .tc sp s e) (L : List (View.Piece (Elt Ideal) s e))
    {off : Fin s.rank → ℕ} (inb : ∀ a, off a + s.size a ≤ s.size a) (G : s.Idx → Elt Ideal e) (h : View.canon L = G) :
    v.readCov L (Rect.unit off s.size inb).toLoadRect = G := by
  rw [View.readCov_eq_canon', h]
  exact funext fun j => congrArg G (Rect.emb_unit_full inb j)

/-- A load of a whole buffer reads its contents. -/
theorem load_held {sp : Space} {s : Shape} {e : EltTy} (m : Memref sig .tc sp s e) (hm : m.IsWhole)
    {off : Fin s.rank → ℕ} (inb : ∀ a, off a + s.size a ≤ s.size a) (x : s.Idx → Elt Ideal e) :
    m.view.readAt (Elt Ideal) (Rect.unit off s.size inb).toLoadRect (hm.unread x) = x := by
  rw [View.readAt_eq_ld, hm.read_unread]
  exact funext fun j => congrArg x (Rect.emb_unit_full inb j)

/-- The one store of a block leaves the network's values when every loaded operand is the named one. -/
theorem out_of_loads {x x' : Vec Ideal S400x128 .f32} {w1 w1' : Vec Ideal S128x2048 .bf16} {b1 b1' b2 b2' b3 b3' b4 b4' : Vec Ideal S1x2048 .f32}
    {w2 w2' w3 w3' w4 w4' : Vec Ideal S2048x2048 .bf16} {w5 w5' : Vec Ideal S2048x128 .bf16} {b5 b5' : Vec Ideal S1x128 .f32}
    (inb : ∀ a, (![0, 0] : Fin 2 → ℕ) a + S400x128.size a ≤ S400x128.size a)
    (hx : x = x') (h1 : w1 = w1') (g1 : b1 = b1') (h2 : w2 = w2') (g2 : b2 = b2') (h3 : w3 = w3') (g3 : b3 = b3')
    (h4 : w4 = w4') (g4 : b4 = b4') (h5 : w5 = w5') (g5 : b5 = b5') :
    View.canon [(⟨Rect.unit ![0, 0] S400x128.size inb, k0_pay1 (k0_pay39 x w1 b1 w2 b2) w3 b3 w4 b4 w5 b5⟩
      : View.Piece (Elt Ideal) S400x128 .f32)] = blockOut x' w1' b1' w2' b2' w3' b3' w4' b4' w5' b5' := by
  subst hx h1 g1 h2 g2 h3 g3 h4 g4 h5 g5
  rw [View.canon_unit_zero (by decide), stored_eq]

/-- A later grid point's run of the body, at the operands the pipeline hands it. -/
abbrev runB (c : Dev nD) (t : Fin cfg0.N) (h : ¬cond0_0 (grid0.coords t))
    (x0 : Vec Ideal S400x128 .f32) (x1 : Vec Ideal S1x2048 .f32) (x2 : Vec Ideal S1x2048 .f32) (x3 : Vec Ideal S1x2048 .f32) (x4 : Vec Ideal S1x2048 .f32) (x5 : Vec Ideal S1x128 .f32) (w1 : Vec Ideal S128x2048 .bf16) (w2 w3 w4 : Vec Ideal S2048x2048 .bf16) (w5 : Vec Ideal S2048x128 .bf16) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5) (fh6 : HbBuf0 (F := Ideal) c hbM0_6) (fh7 : HbBuf0 (F := Ideal) c hbM0_7) (fh8 : HbBuf0 (F := Ideal) c hbM0_8) (fh9 : HbBuf0 (F := Ideal) c hbM0_9) :=
  kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) h x0 x1 x2 x3 x4 x5 w1 w2 w3 w4 w5 fh0 fh1 fh2 fh3 fh4 fh5 fh6 fh7 fh8 fh9

variable (c : Dev nD) (t : Fin cfg0.N)
    (x0 : Vec Ideal S400x128 .f32) (x1 : Vec Ideal S1x2048 .f32) (x2 : Vec Ideal S1x2048 .f32) (x3 : Vec Ideal S1x2048 .f32) (x4 : Vec Ideal S1x2048 .f32) (x5 : Vec Ideal S1x128 .f32) (fh0 : HbBuf0 (F := Ideal) c hbM0_0) (fh1 : HbBuf0 (F := Ideal) c hbM0_1) (fh2 : HbBuf0 (F := Ideal) c hbM0_2) (fh3 : HbBuf0 (F := Ideal) c hbM0_3) (fh4 : HbBuf0 (F := Ideal) c hbM0_4) (fh5 : HbBuf0 (F := Ideal) c hbM0_5) (fh6 : HbBuf0 (F := Ideal) c hbM0_6) (fh7 : HbBuf0 (F := Ideal) c hbM0_7) (fh8 : HbBuf0 (F := Ideal) c hbM0_8) (fh9 : HbBuf0 (F := Ideal) c hbM0_9)

/-- The one store of the first grid point covers the block of the result. -/
theorem out_covers_first (h : cond0_0 (grid0.coords t)) (y : S400x128.Idx) :
    ∃ p ∈ (runA c t h x0 x1 x2 x3 x4 x5 fh0 fh1 fh2 fh3 fh4 fh5 fh6 fh7 fh8 fh9).1, y ∈ p.1.set :=
  View.cover_of_tiledL (s := S400x128) _ S400x128.size (by sl_kernel_rfl) y

/-- At the first grid point the block of the result is the network on the block's rows, with the weights fused there. -/
theorem out_first (h : cond0_0 (grid0.coords t)) :
    View.canon (runA c t h x0 x1 x2 x3 x4 x5 fh0 fh1 fh2 fh3 fh4 fh5 fh6 fh7 fh8 fh9).1
      = blockOut x0 (fuse (n := 2048) (k := 128) fh0 fh1) x1 (fuse (n := 2048) (k := 2048) fh2 fh3) x2
          (fuse (n := 2048) (k := 2048) fh4 fh5) x3 (fuse (n := 2048) (k := 2048) fh6 fh7) x4
          (fuse (n := 128) (k := 2048) fh8 fh9) x5 := by
  have e1 := weights_first c t h x0 x1 x2 x3 x4 x5 fh0 fh1 fh2 fh3 fh4 fh5 fh6 fh7 fh8 fh9
  have e2 := weights_second c t h x0 x1 x2 x3 x4 x5 fh0 fh1 fh2 fh3 fh4 fh5 fh6 fh7 fh8 fh9
  have e3 := weights_third c t h x0 x1 x2 x3 x4 x5 fh0 fh1 fh2 fh3 fh4 fh5 fh6 fh7 fh8 fh9
  have e4 := weights_fourth c t h x0 x1 x2 x3 x4 x5 fh0 fh1 fh2 fh3 fh4 fh5 fh6 fh7 fh8 fh9
  have e5 := weights_fifth c t h x0 x1 x2 x3 x4 x5 fh0 fh1 fh2 fh3 fh4 fh5 fh6 fh7 fh8 fh9
  exact out_of_loads inb_S400x128_S400x128_0_0 (load_held _ (hs0_0 t) _ x0) (load_written _ _ _ _ e1)
    (load_held _ (hs0_1 t) _ x1) (load_written _ _ _ _ e2) (load_held _ (hs0_2 t) _ x2) (load_written _ _ _ _ e3)
    (load_held _ (hs0_3 t) _ x3) (load_written _ _ _ _ e4) (load_held _ (hs0_4 t) _ x4) (load_written _ _ _ _ e5)
    (load_held _ (hs0_5 t) _ x5)

/-- The one store of the later grid points covers the block of the result. -/
theorem out_covers_later (h : ¬cond0_0 (grid0.coords t)) (w1 : Vec Ideal S128x2048 .bf16)
    (w2 w3 w4 : Vec Ideal S2048x2048 .bf16) (w5 : Vec Ideal S2048x128 .bf16) (y : S400x128.Idx) :
    ∃ p ∈ (runB c t h x0 x1 x2 x3 x4 x5 w1 w2 w3 w4 w5 fh0 fh1 fh2 fh3 fh4 fh5 fh6 fh7 fh8 fh9).1, y ∈ p.1.set :=
  View.cover_of_tiledL (s := S400x128) _ S400x128.size (by sl_kernel_rfl) y

/-- At a later grid point it is the network on the block's rows, with the weights the buffers carry. -/
theorem out_later (h : ¬cond0_0 (grid0.coords t)) (w1 : Vec Ideal S128x2048 .bf16)
    (w2 w3 w4 : Vec Ideal S2048x2048 .bf16) (w5 : Vec Ideal S2048x128 .bf16) :
    View.canon (runB c t h x0 x1 x2 x3 x4 x5 w1 w2 w3 w4 w5 fh0 fh1 fh2 fh3 fh4 fh5 fh6 fh7 fh8 fh9).1
      = blockOut x0 w1 x1 w2 x2 w3 x3 w4 x4 w5 x5 := by
  exact out_of_loads inb_S400x128_S400x128_0_0 (load_held _ (hs0_0 t) _ x0) (load_held scM0_0 (Memref.isWhole_whole _) _ w1)
    (load_held _ (hs0_1 t) _ x1) (load_held scM0_1 (Memref.isWhole_whole _) _ w2) (load_held _ (hs0_2 t) _ x2)
    (load_held scM0_2 (Memref.isWhole_whole _) _ w3) (load_held _ (hs0_3 t) _ x3) (load_held scM0_3 (Memref.isWhole_whole _) _ w4)
    (load_held _ (hs0_4 t) _ x4) (load_held scM0_4 (Memref.isWhole_whole _) _ w5) (load_held _ (hs0_5 t) _ x5)

end Cert.KernelIdeal.Fused

end
-- ==== Proof.Body.lean ====
module

public import proofs.«01_k».proof.Proof.Block
public import Idealize.ShloMosaic.Lib.Claim

/-! # The kernel's run, grid point by grid point

The invariant of the launch: before the first grid point the weight buffers hold anything; after it, and after every
later point, they hold the fused weights of the five layers.  Every point leaves the network's values on its block of
rows in the result's staging buffer.  From these the run of the whole program follows. -/

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (Pipeline.UD sig nD τ) ℕ

variable (m : (ℓ : Loc nD τ sig) → Buf (Elt Ideal) ℓ) (ρ : Dev nD → PrngReg) (c : Dev nD)

/-- The fused weights of the first layer. -/
def weight1 : Vec Ideal S128x2048 .bf16 := fuse (n := 2048) (k := 128) (V m c main_arg2) (V m c main_arg4)
/-- The fused weights of the second layer. -/
def weight2 : Vec Ideal S2048x2048 .bf16 := fuse (n := 2048) (k := 2048) (V m c main_arg6) (V m c main_arg8)
/-- The fused weights of the third layer. -/
def weight3 : Vec Ideal S2048x2048 .bf16 := fuse (n := 2048) (k := 2048) (V m c main_arg10) (V m c main_arg12)
/-- The fused weights of the fourth layer. -/
def weight4 : Vec Ideal S2048x2048 .bf16 := fuse (n := 2048) (k := 2048) (V m c main_arg14) (V m c main_arg16)
/-- The fused weights of the fifth layer. -/
def weight5 : Vec Ideal S2048x128 .bf16 := fuse (n := 128) (k := 2048) (V m c main_arg18) (V m c main_arg20)

/-- What a grid point leaves in the result's staging buffer: the network on the point's rows. -/
def pointOut (t : Fin cfg0.N) : Vec Ideal S400x128 .f32 :=
  blockOut (iblk m c 0 t) (weight1 m c) (iblk m c 1 t) (weight2 m c) (iblk m c 2 t) (weight3 m c) (iblk m c 3 t)
    (weight4 m c) (iblk m c 4 t) (weight5 m c) (iblk m c 5 t)

/-- The state between two grid points: the weight buffers at the fused weights, the staging buffers of the weight
    blocks at anything, the transfer counters at zero, the weight matrices in HBM as the launch found them. -/
def between : sProp 𝕄 :=
  iprop(iprop(owns (c : Thread nD τ) scM0_0 fullShare (weight1 m c)
      ∗ owns (c : Thread nD τ) scM0_1 fullShare (weight2 m c)
      ∗ owns (c : Thread nD τ) scM0_2 fullShare (weight3 m c)
      ∗ owns (c : Thread nD τ) scM0_3 fullShare (weight4 m c)
      ∗ owns (c : Thread nD τ) scM0_4 fullShare (weight5 m c)
      ∗ (∃ d, owns (c : Thread nD τ) scM0_5 fullShare d)
      ∗ (∃ d, owns (c : Thread nD τ) scM0_6 fullShare d)
      ∗ (∃ d, owns (c : Thread nD τ) scM0_7 fullShare d)
      ∗ (∃ d, owns (c : Thread nD τ) scM0_8 fullShare d)
      ∗ (∃ d, owns (c : Thread nD τ) scM0_9 fullShare d)
      ∗ (∃ d, owns (c : Thread nD τ) scM0_10 fullShare d)
      ∗ (∃ d, owns (c : Thread nD τ) scM0_11 fullShare d)
      ∗ (∃ d, owns (c : Thread nD τ) scM0_12 fullShare d))
    ∗ (∃ r, prngReg c r)
    ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)
    ∗ iprop(hbPt0 c hbM0_0 (V m c main_arg2) ∗ hbPt0 c hbM0_1 (V m c main_arg4) ∗ hbPt0 c hbM0_2 (V m c main_arg6) ∗ hbPt0 c hbM0_3 (V m c main_arg8) ∗ hbPt0 c hbM0_4 (V m c main_arg10) ∗ hbPt0 c hbM0_5 (V m c main_arg12) ∗ hbPt0 c hbM0_6 (V m c main_arg14) ∗ hbPt0 c hbM0_7 (V m c main_arg16) ∗ hbPt0 c hbM0_8 (V m c main_arg18) ∗ hbPt0 c hbM0_9 (V m c main_arg20)))

/-- The invariant before grid point `n`. -/
def inv : ℕ → sProp 𝕄
  | 0 => Pipeline.ΦD osem0 spec0 H0 (V m) c
  | _ + 1 => between m c

theorem inv_pos (n : ℕ) (h : n ≠ 0) : inv m c n = between m c := by
  cases n with
  | zero => exact absurd rfl h
  | succ n => rfl

/-- What the launch is verified against: the arrays as the region finds them, every input buffer at its block, the
    result's buffer at `pointOut`, the invariant `inv`. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => pointOut m c t
  Φ t := inv m c t.val
  q _ := fullShare
  owed _ := 0

theorem A_eq (w : Fin cfg0.W) : (dats m 0 c).A w = V m c (Pipeline.arrRef spec0 w) := by
  dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
/-- A grid point leaves the network's values on its rows. -/
theorem after6 (t : Fin cfg0.N) : (dats m 0 c).after 6 t = pointOut m c t := by dsimp only [dats]

theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d
theorem before2 (t : Fin cfg0.N) (d) : (dats m 0 c).before 2 t d = iblk m c 2 t :=
  before0_2_of m (dats m 0 c) (A_eq m c 2) (after2 m c) t d
theorem before3 (t : Fin cfg0.N) (d) : (dats m 0 c).before 3 t d = iblk m c 3 t :=
  before0_3_of m (dats m 0 c) (A_eq m c 3) (after3 m c) t d
theorem before4 (t : Fin cfg0.N) (d) : (dats m 0 c).before 4 t d = iblk m c 4 t :=
  before0_4_of m (dats m 0 c) (A_eq m c 4) (after4 m c) t d
theorem before5 (t : Fin cfg0.N) (d) : (dats m 0 c).before 5 t d = iblk m c 5 t :=
  before0_5_of m (dats m 0 c) (A_eq m c 5) (after5 m c) t d

/-- What the body is entered with at point `t`. -/
def entered (t : Fin cfg0.N) (P : sProp 𝕄) : sProp 𝕄 :=
  iprop(P ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it is left with. -/
def leaves (t : Fin cfg0.N) : sProp 𝕄 :=
  iprop(between m c ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 16000000 in
/-- The first grid point fills the weight buffers and leaves the network's values on its rows. -/
theorem point_first (t : Fin cfg0.N) (h : cond0_0 (grid0.coords t)) :
    entered m c t (Pipeline.ΦD osem0 spec0 H0 (V m) c)
      ⊢ wp frame (wpE (defs₀ (F := Ideal)) Variants.none c none) Set.univ (bodyAt0 t) (fun _ => leaves m c t) := by
  unfold entered leaves bodyAt0 between
  simp only [before0, before1, before2, before3, before4, before5, after0, after1, after2, after3, after4, after5, after6]
  unfold Dat.owesAt Pipeline.owesWithin
  rw [show (dats m 0 c).owed t.castSucc = 0 from rfl, show (dats m 0 c).owed t.succ = 0 from rfl]
  rw [PhiD0_eq]
  iintro ⟨⟨⟨HS0, HS1, HS2, HS3, HS4, HS5, HS6, HS7, HS8, HS9, HS10, HS11, HS12⟩, Hg, ⟨Hq0, Hq1, Hq2, Hq3, Hq4, Hq5, Hq6, Hq7⟩, ⟨Hh0, Hh1, Hh2, Hh3, Hh4, Hh5, Hh6, Hh7, Hh8, Hh9⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((runA c t h (iblk m c 0 t) (iblk m c 1 t) (iblk m c 2 t) (iblk m c 3 t) (iblk m c 4 t) (iblk m c 5 t)
    (V m c main_arg2) (V m c main_arg4) (V m c main_arg6) (V m c main_arg8) (V m c main_arg10) (V m c main_arg12) (V m c main_arg14) (V m c main_arg16) (V m c main_arg18) (V m c main_arg20)).2.2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [HW]; · iexact HW
  iintro ⟨H0, H1, H2, H3, H4, H5, ⟨%e6, H6⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, Hq0, Hq1, Hq2, Hq3, Hq4, Hq5, Hq6, Hq7, Hh0, Hh1, Hh2, Hh3, Hh4, Hh5, Hh6, Hh7, Hh8, Hh9, ⟨%W', HW'⟩⟩
  isplitl [HS0 HS1 HS2 HS3 HS4 HS5 HS6 HS7 HS8 HS9 HS10 HS11 HS12 Hg Hq0 Hq1 Hq2 Hq3 Hq4 Hq5 Hq6 Hq7 Hh0 Hh1 Hh2 Hh3 Hh4 Hh5 Hh6 Hh7 Hh8 Hh9]
  · isplitl [HS0 HS1 HS2 HS3 HS4 HS5 HS6 HS7 HS8 HS9 HS10 HS11 HS12]
    · isplitl [HS0]
      · unfold owns; iexists _; isplitr
        swap; · iexact HS0
        ipureintro; exact (View.read_writes_eq_canon _ _ _ (covers_first c t h _ _ _ _ _ _ _ _ _ _ _ _ _ _ _ _)).trans
          (weights_first c t h _ _ _ _ _ _ _ _ _ _ _ _ _ _ _ _)
      isplitl [HS1]
      · unfold owns; iexists _; isplitr
        swap; · iexact HS1
        ipureintro; exact (View.read_writes_eq_canon _ _ _ (covers_second c t h _ _ _ _ _ _ _ _ _ _ _ _ _ _ _ _)).trans
          (weights_second c t h _ _ _ _ _ _ _ _ _ _ _ _ _ _ _ _)
      isplitl [HS2]
      · unfold owns; iexists _; isplitr
        swap; · iexact HS2
        ipureintro; exact (View.read_writes_eq_canon _ _ _ (covers_third c t h _ _ _ _ _ _ _ _ _ _ _ _ _ _ _ _)).trans
          (weights_third c t h _ _ _ _ _ _ _ _ _ _ _ _ _ _ _ _)
      isplitl [HS3]
      · unfold owns; iexists _; isplitr
        swap; · iexact HS3
        ipureintro; exact (View.read_writes_eq_canon _ _ _ (covers_fourth c t h _ _ _ _ _ _ _ _ _ _ _ _ _ _ _ _)).trans
          (weights_fourth c t h _ _ _ _ _ _ _ _ _ _ _ _ _ _ _ _)
      isplitl [HS4]
      · unfold owns; iexists _; isplitr
        swap; · iexact HS4
        ipureintro; exact (View.read_writes_eq_canon _ _ _ (covers_fifth c t h _ _ _ _ _ _ _ _ _ _ _ _ _ _ _ _)).trans
          (weights_fifth c t h _ _ _ _ _ _ _ _ _ _ _ _ _ _ _ _)
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      isplitl [HS11]
      · iexists _; unfold owns; iexists _; isplitr
        swap; · iexact HS11
        ipureintro; rfl
      iexists _; unfold owns; iexists _; isplitr
      swap; · iexact HS12
      ipureintro; rfl
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    iexact Hh9
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (View.read_writes_eq_canon _ _ _ (out_covers_first c t _ _ _ _ _ _ _ _ _ _ _ _ _ _ _ _ h)).trans
    (out_first c t _ _ _ _ _ _ _ _ _ _ _ _ _ _ _ _ h)

set_option maxHeartbeats 16000000 in
/-- A later grid point keeps the weight buffers and leaves the network's values on its rows. -/
theorem point_later (t : Fin cfg0.N) (h : ¬cond0_0 (grid0.coords t)) :
    entered m c t (between m c)
      ⊢ wp frame (wpE (defs₀ (F := Ideal)) Variants.none c none) Set.univ (bodyAt0 t) (fun _ => leaves m c t) := by
  unfold entered leaves bodyAt0 between
  simp only [before0, before1, before2, before3, before4, before5, after0, after1, after2, after3, after4, after5, after6]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9, HS10, HS11, HS12⟩, Hg, ⟨Hq0, Hq1, Hq2, Hq3, Hq4, Hq5, Hq6, Hq7⟩, ⟨Hh0, Hh1, Hh2, Hh3, Hh4, Hh5, Hh6, Hh7, Hh8, Hh9⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((runB c t h (iblk m c 0 t) (iblk m c 1 t) (iblk m c 2 t) (iblk m c 3 t) (iblk m c 4 t) (iblk m c 5 t) (weight1 m c) (weight2 m c) (weight3 m c) (weight4 m c) (weight5 m c)
    (V m c main_arg2) (V m c main_arg4) (V m c main_arg6) (V m c main_arg8) (V m c main_arg10) (V m c main_arg12) (V m c main_arg14) (V m c main_arg16) (V m c main_arg18) (V m c main_arg20)).2.2.2.2.2.2.2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [HW]; · iexact HW
  iintro ⟨H0, H1, H2, H3, H4, H5, ⟨%e6, H6⟩, HS0, HS1, HS2, HS3, HS4, HS5, HS6, HS7, HS8, HS9, HS10, HS11, HS12, Hq0, Hq1, Hq2, Hq3, Hq4, Hq5, Hq6, Hq7, Hh0, Hh1, Hh2, Hh3, Hh4, Hh5, Hh6, Hh7, Hh8, Hh9, ⟨%W', HW'⟩⟩
  isplitl [HS0 HS1 HS2 HS3 HS4 HS5 HS6 HS7 HS8 HS9 HS10 HS11 HS12 Hg Hq0 Hq1 Hq2 Hq3 Hq4 Hq5 Hq6 Hq7 Hh0 Hh1 Hh2 Hh3 Hh4 Hh5 Hh6 Hh7 Hh8 Hh9]
  · isplitl [HS0 HS1 HS2 HS3 HS4 HS5 HS6 HS7 HS8 HS9 HS10 HS11 HS12]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      iexact HS12
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    iexact Hh9
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (View.read_writes_eq_canon _ _ _ (out_covers_later c t _ _ _ _ _ _ _ _ _ _ _ _ _ _ _ _ h _ _ _ _ _)).trans
    (out_later c t _ _ _ _ _ _ _ _ _ _ _ _ _ _ _ _ h _ _ _ _ _)

/-- Every grid point keeps the invariant. -/
theorem point (t : Fin cfg0.N) :
    entered m c t ((dats m 0 c).Φ t.castSucc)
      ⊢ wp frame (wpE (defs₀ (F := Ideal)) Variants.none c none) Set.univ (bodyAt0 t) (fun _ => leaves m c t) := by
  have hN : t.val < 25 := lt_of_lt_of_eq t.isLt (show cfg0.N = 25 from N_0)
  rw [show (dats m 0 c).Φ t.castSucc = inv m c t.val from rfl]
  by_cases hz : t.val = 0
  · rw [hz]
    exact point_first m c t ((hcond0_0 t).mpr (by omega))
  · rw [inv_pos m c _ hz]
    exact point_later m c t fun h => by have := (hcond0_0 t).mp h; omega

/-- The body called at a point is the body at the point's staging buffers. -/
theorem body_row (t : Fin cfg0.N) :
    defs₀ (F := Ideal) .tc cfg0.body (cfg0.bodyArgs t (cfg0.slots t)) = bodyAt0 t := by
  unfold defs₀
  rw [Defs.onTc_tc]

theorem obligation : BodyObligation (dats m 0 c) (defs₀ (F := Ideal)) Variants.none () Set.univ := fun t => by
  rw [bigSep_W0, bigSep_W0, body_row]
  exact triple_restated (point m c t) rfl .rfl fun _ => .rfl

/-- The launch hands the region the invariant before the first point. -/
theorem start : Pipeline.ΦD osem0 spec0 H0 (V m) c ⊢ (dats m 0 c).Φ 0 :=
  Idealize.SL.BI.Entails.refl _

/-- After the last point the region gives back what it was handed, the contents of the weight buffers forgotten. -/
theorem finish : (dats m 0 c).Φ (Fin.last cfg0.N) ⊢ Pipeline.ΦD osem0 spec0 H0 (V m) c := by
  rw [show (dats m 0 c).Φ (Fin.last cfg0.N) = inv m c cfg0.N from rfl,
    inv_pos m c _ (by have : cfg0.N = 25 := N_0; omega), PhiD0_eq]
  unfold between
  iintro ⟨⟨HS0, HS1, HS2, HS3, HS4, HS5, HS6, HS7, HS8, HS9, HS10, HS11, HS12⟩, Hg, Hq, Hh⟩
  isplitl [HS0 HS1 HS2 HS3 HS4 HS5 HS6 HS7 HS8 HS9 HS10 HS11 HS12]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iexact HS12
  isplitl [Hg]; · iexact Hg
  isplitl [Hq]; · iexact Hq
  iexact Hh

-- the launch theorem's implicit arguments are found by unfolding plain definitions in their types
set_option backward.isDefEq.respectTransparency.types false in
/-- The run of the program: it terminates, every array ends at what the proof data say, every counter at zero. -/
theorem run_all : θ_run defs (onTc (τ := τ) (main (F := Ideal))) (s₀ m ρ) (fun r =>
    (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub
    m ρ main (hbody := fun c => (obligation m c).loose) (hshare := fun c => (dats m 0 c).share_full fun _ => rfl)
    (howed := fun _ _ => rfl) (V := V m) (hmain := hmain m Variants.none) (hA := A_eq m) (hin := start m)
    (hout := finish m)

end Cert.KernelIdeal.Fused

end
-- ==== Proof.Net.lean ====
module

public import proofs.«01_k».proof.Proof.Layer
public import Idealize.ShloMosaic.Lib.Pointwise.Index

/-! # The network over whole arrays

The five-layer network as the kernel computes it, from the sum of each layer's two weight matrices and of its two
biases, and as the reference computes it, from two products in each layer; and the equation between the two when the
rows, the weights and the biases of the hidden layers hold no infinity. -/

@[expose] public section

noncomputable section

namespace Cert.Net

open Idealize.ShloMosaic Cert.Layer

/-- The entries of a matrix, by row and column. -/
def mat {n k : ℕ} (w : Shape.Idx ⟨2, ![n, k]⟩ → EReal) : Fin n → Fin k → EReal := fun j i => w (ix2 j i)

/-- The entries of a vector. -/
def vec {n : ℕ} (b : Shape.Idx ⟨1, ![n]⟩ → EReal) : Fin n → EReal := fun j => b (ix1 j)

/-- The argument arrays: the rows, and for each layer a weight matrix and a bias of each of the two branches. -/
structure Args where
  x : Shape.Idx ⟨2, ![10000, 128]⟩ → EReal
  g1 : Shape.Idx ⟨2, ![2048, 128]⟩ → EReal
  gb1 : Shape.Idx ⟨1, ![2048]⟩ → EReal
  l1 : Shape.Idx ⟨2, ![2048, 128]⟩ → EReal
  lb1 : Shape.Idx ⟨1, ![2048]⟩ → EReal
  g2 : Shape.Idx ⟨2, ![2048, 2048]⟩ → EReal
  gb2 : Shape.Idx ⟨1, ![2048]⟩ → EReal
  l2 : Shape.Idx ⟨2, ![2048, 2048]⟩ → EReal
  lb2 : Shape.Idx ⟨1, ![2048]⟩ → EReal
  g3 : Shape.Idx ⟨2, ![2048, 2048]⟩ → EReal
  gb3 : Shape.Idx ⟨1, ![2048]⟩ → EReal
  l3 : Shape.Idx ⟨2, ![2048, 2048]⟩ → EReal
  lb3 : Shape.Idx ⟨1, ![2048]⟩ → EReal
  g4 : Shape.Idx ⟨2, ![2048, 2048]⟩ → EReal
  gb4 : Shape.Idx ⟨1, ![2048]⟩ → EReal
  l4 : Shape.Idx ⟨2, ![2048, 2048]⟩ → EReal
  lb4 : Shape.Idx ⟨1, ![2048]⟩ → EReal
  g5 : Shape.Idx ⟨2, ![128, 2048]⟩ → EReal
  gb5 : Shape.Idx ⟨1, ![128]⟩ → EReal
  l5 : Shape.Idx ⟨2, ![128, 2048]⟩ → EReal
  lb5 : Shape.Idx ⟨1, ![128]⟩ → EReal

/-- The network on one row, the weights and biases of each layer summed first. -/
def fusedRow (a : Args) (h : Fin 128 → EReal) : Fin 128 → EReal :=
  mlp (fun i q => mat a.g1 q i + mat a.l1 q i) (fun q => vec a.gb1 q + vec a.lb1 q)
    (fun i q => mat a.g2 q i + mat a.l2 q i) (fun q => vec a.gb2 q + vec a.lb2 q)
    (fun i q => mat a.g3 q i + mat a.l3 q i) (fun q => vec a.gb3 q + vec a.lb3 q)
    (fun i q => mat a.g4 q i + mat a.l4 q i) (fun q => vec a.gb4 q + vec a.lb4 q)
    (fun i q => mat a.g5 q i + mat a.l5 q i) (fun q => vec a.gb5 q + vec a.lb5 q) h

/-- The network on one row, the two branches of each layer added after their products. -/
def twinRow (a : Args) (h : Fin 128 → EReal) : Fin 128 → EReal :=
  twin (twinLayer (twinLayer (twinLayer (twinLayer h (mat a.g1) (mat a.l1) (vec a.gb1) (vec a.lb1))
    (mat a.g2) (mat a.l2) (vec a.gb2) (vec a.lb2))
    (mat a.g3) (mat a.l3) (vec a.gb3) (vec a.lb3))
    (mat a.g4) (mat a.l4) (vec a.gb4) (vec a.lb4))
    (mat a.g5) (mat a.l5) (vec a.gb5) (vec a.lb5)

/-- The kernel's result on whole arrays. -/
def fused (a : Args) : Shape.Idx ⟨2, ![10000, 128]⟩ → EReal := fun j => fusedRow a (mat a.x (j 0)) (j 1)

/-- The reference's result on whole arrays. -/
def twinNet (a : Args) : Shape.Idx ⟨2, ![10000, 128]⟩ → EReal := fun j => twinRow a (mat a.x (j 0)) (j 1)

/-- The rows, every weight and the biases of the four hidden layers hold no infinity. -/
structure Args.Finite (a : Args) : Prop where
  x : ∀ j, IsReal (a.x j)
  g1 : ∀ j, IsReal (a.g1 j)
  gb1 : ∀ j, IsReal (a.gb1 j)
  l1 : ∀ j, IsReal (a.l1 j)
  lb1 : ∀ j, IsReal (a.lb1 j)
  g2 : ∀ j, IsReal (a.g2 j)
  gb2 : ∀ j, IsReal (a.gb2 j)
  l2 : ∀ j, IsReal (a.l2 j)
  lb2 : ∀ j, IsReal (a.lb2 j)
  g3 : ∀ j, IsReal (a.g3 j)
  gb3 : ∀ j, IsReal (a.gb3 j)
  l3 : ∀ j, IsReal (a.l3 j)
  lb3 : ∀ j, IsReal (a.lb3 j)
  g4 : ∀ j, IsReal (a.g4 j)
  gb4 : ∀ j, IsReal (a.gb4 j)
  l4 : ∀ j, IsReal (a.l4 j)
  lb4 : ∀ j, IsReal (a.lb4 j)
  g5 : ∀ j, IsReal (a.g5 j)
  l5 : ∀ j, IsReal (a.l5 j)

/-- A hidden layer with summed weights and biases is the one that adds the two branches afterwards. -/
theorem layer_eq_twinLayer {k n : ℕ} (h : Fin k → EReal) (g l : Fin n → Fin k → EReal) (bg bl : Fin n → EReal)
    (hh : ∀ i, IsReal (h i)) (hg : ∀ j i, IsReal (g j i)) (hl : ∀ j i, IsReal (l j i)) :
    layer h (fun i j => g j i + l j i) (fun j => bg j + bl j) = twinLayer h g l bg bl := by
  funext j
  unfold layer twinLayer
  rw [affine_eq_twin h g l bg bl hh hg hl]

/-- A hidden layer of real data is real. -/
theorem twinLayer_isReal {k n : ℕ} (h : Fin k → EReal) (g l : Fin n → Fin k → EReal) (bg bl : Fin n → EReal)
    (hh : ∀ i, IsReal (h i)) (hg : ∀ j i, IsReal (g j i)) (hl : ∀ j i, IsReal (l j i)) (hbg : ∀ j, IsReal (bg j))
    (hbl : ∀ j, IsReal (bl j)) (j : Fin n) : IsReal (twinLayer h g l bg bl j) :=
  (twin_isReal h g l bg bl hh hg hl hbg hbl j).elu

/-- On finite arguments the two networks agree on every row that holds no infinity. -/
theorem fusedRow_eq (a : Args) (ha : a.Finite) (h : Fin 128 → EReal) (hh : ∀ i, IsReal (h i)) :
    fusedRow a h = twinRow a h := by
  have r1 := twinLayer_isReal _ (mat a.g1) (mat a.l1) (vec a.gb1) (vec a.lb1) hh (fun _ _ => ha.g1 _)
    (fun _ _ => ha.l1 _) (fun _ => ha.gb1 _) (fun _ => ha.lb1 _)
  have r2 := twinLayer_isReal _ (mat a.g2) (mat a.l2) (vec a.gb2) (vec a.lb2) r1 (fun _ _ => ha.g2 _)
    (fun _ _ => ha.l2 _) (fun _ => ha.gb2 _) (fun _ => ha.lb2 _)
  have r3 := twinLayer_isReal _ (mat a.g3) (mat a.l3) (vec a.gb3) (vec a.lb3) r2 (fun _ _ => ha.g3 _)
    (fun _ _ => ha.l3 _) (fun _ => ha.gb3 _) (fun _ => ha.lb3 _)
  have r4 := twinLayer_isReal _ (mat a.g4) (mat a.l4) (vec a.gb4) (vec a.lb4) r3 (fun _ _ => ha.g4 _)
    (fun _ _ => ha.l4 _) (fun _ => ha.gb4 _) (fun _ => ha.lb4 _)
  unfold fusedRow twinRow mlp
  rw [layer_eq_twinLayer _ (mat a.g1) (mat a.l1) _ _ hh (fun _ _ => ha.g1 _) (fun _ _ => ha.l1 _)]
  rw [layer_eq_twinLayer _ (mat a.g2) (mat a.l2) _ _ r1 (fun _ _ => ha.g2 _) (fun _ _ => ha.l2 _)]
  rw [layer_eq_twinLayer _ (mat a.g3) (mat a.l3) _ _ r2 (fun _ _ => ha.g3 _) (fun _ _ => ha.l3 _)]
  rw [layer_eq_twinLayer _ (mat a.g4) (mat a.l4) _ _ r3 (fun _ _ => ha.g4 _) (fun _ _ => ha.l4 _)]
  rw [affine_eq_twin _ (mat a.g5) (mat a.l5) _ _ r4 (fun _ _ => ha.g5 _) (fun _ _ => ha.l5 _)]

/-- The kernel's network is the reference's on finite arguments. -/
theorem fused_eq_twinNet (a : Args) (ha : a.Finite) : fused a = twinNet a := by
  funext j
  exact congrFun (fusedRow_eq a ha _ fun _ => ha.x _) _

end Cert.Net

end
-- ==== Proof.Array.lean ====
module

public import proofs.«01_k».proof.Proof.Body
public import proofs.«01_k».proof.Proof.Net

/-! # What the result array holds after the kernel's run

Grid point `t` reads rows `400 t` to `400 t + 399` of the argument and writes the same rows of the result, so the
whole result is the network applied to every row. -/

@[expose] public section

set_option maxRecDepth 16384

noncomputable section

namespace Cert.KernelIdeal.Fused

open Idealize.ShloMosaic Idealize.ShloMosaic.TcCoe Idealize.ShloMosaic.Tactic Idealize.SL.Sem
open Idealize.ShloMosaic.Pipeline (Dat)
open Cert.KernelIdeal Cert.KernelIdeal.Gen Cert.Layer Cert.Net

variable (m : (ℓ : Loc nD τ sig) → Buf (Elt Ideal) ℓ) (ρ : Dev nD → PrngReg) (c : Dev nD)

/-- The arguments of the kernel in a memory. -/
def args : Args where
  x := m ((c : Thread nD τ).loc main_arg0)
  g1 := m ((c : Thread nD τ).loc main_arg2)
  gb1 := m ((c : Thread nD τ).loc main_arg3)
  l1 := m ((c : Thread nD τ).loc main_arg4)
  lb1 := m ((c : Thread nD τ).loc main_arg5)
  g2 := m ((c : Thread nD τ).loc main_arg6)
  gb2 := m ((c : Thread nD τ).loc main_arg7)
  l2 := m ((c : Thread nD τ).loc main_arg8)
  lb2 := m ((c : Thread nD τ).loc main_arg9)
  g3 := m ((c : Thread nD τ).loc main_arg10)
  gb3 := m ((c : Thread nD τ).loc main_arg11)
  l3 := m ((c : Thread nD τ).loc main_arg12)
  lb3 := m ((c : Thread nD τ).loc main_arg13)
  g4 := m ((c : Thread nD τ).loc main_arg14)
  gb4 := m ((c : Thread nD τ).loc main_arg15)
  l4 := m ((c : Thread nD τ).loc main_arg16)
  lb4 := m ((c : Thread nD τ).loc main_arg17)
  g5 := m ((c : Thread nD τ).loc main_arg18)
  gb5 := m ((c : Thread nD τ).loc main_arg19)
  l5 := m ((c : Thread nD τ).loc main_arg20)
  lb5 := m ((c : Thread nD τ).loc main_arg21)

/-! ## Where the blocks lie -/

theorem index0 : ∀ t : Fin cfg0.N, win0_0.index t = ![t.val, 0] :=
  (by decide +kernel : ∀ t : Fin grid0.N, win0_0.index t = ![t.val, 0])
theorem index6 : ∀ t : Fin cfg0.N, win0_6.index t = ![t.val, 0] :=
  (by decide +kernel : ∀ t : Fin grid0.N, win0_6.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index3 : ∀ t : Fin cfg0.N, win0_3.index t = ![0, 0] :=
  (by decide +kernel : ∀ t : Fin grid0.N, win0_3.index t = ![0, 0])
theorem index4 : ∀ t : Fin cfg0.N, win0_4.index t = ![0, 0] :=
  (by decide +kernel : ∀ t : Fin grid0.N, win0_4.index t = ![0, 0])
theorem index5 : ∀ t : Fin cfg0.N, win0_5.index t = ![0, 0] :=
  (by decide +kernel : ∀ t : Fin grid0.N, win0_5.index t = ![0, 0])

/-- Row `p` of the argument's block at point `t` is row `400 t + p` of the argument. -/
theorem row_block (t : Fin cfg0.N) (p : Fin 400) (r : Fin 10000) (hr : r.val = 400 * t.val + p.val) (i : Fin 128) :
    (iblk m c 0 t : S400x128.Idx → EReal) (ix2 p i) = (args m c).x (ix2 r i) := by
  have e : (iblk m c 0 t : S400x128.Idx → EReal) (ix2 p i) = (V m c main_arg0 : S10000x128.Idx → EReal) (ix2 r i) := by
    unfold iblk
    blk_simp
    congr 1
    funext a
    apply Fin.ext
    blk_simp [index0]
    fin_cases a
    · simp
      omega
    · simp
  rw [e, V_main_arg0]
  rfl

/-! ## The biases: the host adds the two of each layer before the launch -/

theorem bias1 : (V m c main_v1 : S1x2048.Idx → EReal) = shapeCast S1x2048
    (addf (F := Ideal) (φ := .f32) (args m c).gb1 (args m c).lb1) shapeCasts_S2048_S1x2048 := by
  unfold_abbrev_sides
  after_results
  rfl

/-- The bias block of layer 1 is the sum of the layer's two biases at every point. -/
theorem bias_block1 (t : Fin cfg0.N) (q : Fin 2048) :
    (iblk m c 1 t : S1x2048.Idx → EReal) (ix2 0 q) = vec (args m c).gb1 q + vec (args m c).lb1 q := by
  have e : (iblk m c 1 t : S1x2048.Idx → EReal) (ix2 0 q) = (V m c main_v1 : S1x2048.Idx → EReal) (ix2 0 q) := by
    unfold iblk
    blk_simp
    congr 1
    funext a
    apply Fin.ext
    blk_simp [index1]
    fin_cases a <;> simp
  rw [e, bias1]
  pointwise [vec]

theorem bias2 : (V m c main_v3 : S1x2048.Idx → EReal) = shapeCast S1x2048
    (addf (F := Ideal) (φ := .f32) (args m c).gb2 (args m c).lb2) shapeCasts_S2048_S1x2048 := by
  unfold_abbrev_sides
  after_results
  rfl

/-- The bias block of layer 2 is the sum of the layer's two biases at every point. -/
theorem bias_block2 (t : Fin cfg0.N) (q : Fin 2048) :
    (iblk m c 2 t : S1x2048.Idx → EReal) (ix2 0 q) = vec (args m c).gb2 q + vec (args m c).lb2 q := by
  have e : (iblk m c 2 t : S1x2048.Idx → EReal) (ix2 0 q) = (V m c main_v3 : S1x2048.Idx → EReal) (ix2 0 q) := by
    unfold iblk
    blk_simp
    congr 1
    funext a
    apply Fin.ext
    blk_simp [index2]
    fin_cases a <;> simp
  rw [e, bias2]
  pointwise [vec]

theorem bias3 : (V m c main_v5 : S1x2048.Idx → EReal) = shapeCast S1x2048
    (addf (F := Ideal) (φ := .f32) (args m c).gb3 (args m c).lb3) shapeCasts_S2048_S1x2048 := by
  unfold_abbrev_sides
  after_results
  rfl

/-- The bias block of layer 3 is the sum of the layer's two biases at every point. -/
theorem bias_block3 (t : Fin cfg0.N) (q : Fin 2048) :
    (iblk m c 3 t : S1x2048.Idx → EReal) (ix2 0 q) = vec (args m c).gb3 q + vec (args m c).lb3 q := by
  have e : (iblk m c 3 t : S1x2048.Idx → EReal) (ix2 0 q) = (V m c main_v5 : S1x2048.Idx → EReal) (ix2 0 q) := by
    unfold iblk
    blk_simp
    congr 1
    funext a
    apply Fin.ext
    blk_simp [index3]
    fin_cases a <;> simp
  rw [e, bias3]
  pointwise [vec]

theorem bias4 : (V m c main_v7 : S1x2048.Idx → EReal) = shapeCast S1x2048
    (addf (F := Ideal) (φ := .f32) (args m c).gb4 (args m c).lb4) shapeCasts_S2048_S1x2048 := by
  unfold_abbrev_sides
  after_results
  rfl

/-- The bias block of layer 4 is the sum of the layer's two biases at every point. -/
theorem bias_block4 (t : Fin cfg0.N) (q : Fin 2048) :
    (iblk m c 4 t : S1x2048.Idx → EReal) (ix2 0 q) = vec (args m c).gb4 q + vec (args m c).lb4 q := by
  have e : (iblk m c 4 t : S1x2048.Idx → EReal) (ix2 0 q) = (V m c main_v7 : S1x2048.Idx → EReal) (ix2 0 q) := by
    unfold iblk
    blk_simp
    congr 1
    funext a
    apply Fin.ext
    blk_simp [index4]
    fin_cases a <;> simp
  rw [e, bias4]
  pointwise [vec]

theorem bias5 : (V m c main_v9 : S1x128.Idx → EReal) = shapeCast S1x128
    (addf (F := Ideal) (φ := .f32) (args m c).gb5 (args m c).lb5) shapeCasts_S128_S1x128 := by
  unfold_abbrev_sides
  after_results
  rfl

/-- The bias block of layer 5 is the sum of the layer's two biases at every point. -/
theorem bias_block5 (t : Fin cfg0.N) (q : Fin 128) :
    (iblk m c 5 t : S1x128.Idx → EReal) (ix2 0 q) = vec (args m c).gb5 q + vec (args m c).lb5 q := by
  have e : (iblk m c 5 t : S1x128.Idx → EReal) (ix2 0 q) = (V m c main_v9 : S1x128.Idx → EReal) (ix2 0 q) := by
    unfold iblk
    blk_simp
    congr 1
    funext a
    apply Fin.ext
    blk_simp [index5]
    fin_cases a <;> simp
  rw [e, bias5]
  pointwise [vec]

/-! ## The weights -/

theorem weight_at1 (i q) : weight1 m c (ix2 i q) = mat (args m c).g1 q i + mat (args m c).l1 q i := by
  unfold weight1
  rw [V_main_arg2, V_main_arg4]
  rfl

theorem weight_at2 (i q) : weight2 m c (ix2 i q) = mat (args m c).g2 q i + mat (args m c).l2 q i := by
  unfold weight2
  rw [V_main_arg6, V_main_arg8]
  rfl

theorem weight_at3 (i q) : weight3 m c (ix2 i q) = mat (args m c).g3 q i + mat (args m c).l3 q i := by
  unfold weight3
  rw [V_main_arg10, V_main_arg12]
  rfl

theorem weight_at4 (i q) : weight4 m c (ix2 i q) = mat (args m c).g4 q i + mat (args m c).l4 q i := by
  unfold weight4
  rw [V_main_arg14, V_main_arg16]
  rfl

theorem weight_at5 (i q) : weight5 m c (ix2 i q) = mat (args m c).g5 q i + mat (args m c).l5 q i := by
  unfold weight5
  rw [V_main_arg18, V_main_arg20]
  rfl

/-! ## The array -/

/-- After the last point the result array is the network on the argument's rows. -/
theorem result : ((dats m 0 c).arrAt 6 cfg0.N : S10000x128.Idx → EReal) = fused (args m c) := by
  refine (dats m 0 c).arrAt_eq_of_covers 6 _ (by decide +kernel) fun t hf y => ?_
  have e0 : (((win0_6.blk t).view.emb y) 0).val = 400 * t.val + (y 0).val := by
    blk_simp [index6]
    simp [Nat.mul_comm]
  have e1 : (((win0_6.blk t).view.emb y) 1).val = (y 1).val := by
    blk_simp [index6]
  blk_simp
  rw [after6]
  unfold pointOut blockOut
  simp only [weight_at1, weight_at2, weight_at3, weight_at4, weight_at5]
  simp only [bias_block1, bias_block2, bias_block3, bias_block4, bias_block5]
  simp only [fun i => row_block m c t (y 0) _ e0 i]
  unfold fused
  exact congrArg (fusedRow (args m c) _) (Fin.ext e1.symm)

end Cert.KernelIdeal.Fused

end
-- ==== Proof.Finite.lean ====
module

public import proofs.«01_k».proof.Defs
public import proofs.«01_k».proof.Proof.Array

/-! # The precondition, read on the arguments

The precondition compares the absolute value of each entry of an argument with the upper infinity; that it holds
everywhere says that the argument holds no infinity. -/

@[expose] public section

set_option maxRecDepth 16384

noncomputable section

namespace Cert.Pre_finite_arguments

open Idealize.ShloMosaic

/-- The relations of shapes the precondition's operations take. -/
instance facts : Facts where
  bcast_S_S10000x128 := by decide
  bcast_S_S2048x128 := by decide
  bcast_S_S2048 := by decide
  bcast_S_S2048x2048 := by decide
  bcast_S_S128x2048 := by decide

/-- An array whose comparison with the upper infinity holds at every entry holds no infinity. -/
theorem isReal_of_less {s : Shape} (h : S_.BroadcastsInDim s (![] : Fin 0 → Fin s.rank)) (a : FVec Ideal s .f32)
    (e : cmpf .olt (Host.absf a) (broadcastInDim s ![] h (constant S_ .f32 0x7F800000#32)) = fun _ => 1) (j : s.Idx) :
    Layer.IsReal (a j) := by
  have e := congrFun e j
  pointwise [] at e
  have top : Ideal.ofBits .f32 0x7F800000#32 = ⊤ := by simp [Ideal.ofBits, Ideal.ieee]
  rw [top] at e
  refine Layer.isReal_of_abs_lt ?_
  by_contra hn
  exact absurd (e.symm.trans (congrArg BitVec.ofBool (decide_eq_false hn))) (by decide)

end Cert.Pre_finite_arguments

namespace Cert.KernelIdeal.Fused

open Idealize.ShloMosaic Idealize.SL.Sem Cert.Pre_finite_arguments

/-- Under the precondition the kernel's arguments are finite. -/
theorem args_finite (m : (ℓ : Loc nD τ sig) → Buf (Elt Ideal) ℓ) (h : Pre_KernelIdeal_finite_arguments m) (c : Dev nD) :
    (args m c).Finite := by
  obtain ⟨hx, hg1, hgb1, hl1, hlb1, hg2, hgb2, hl2, hlb2, hg3, hgb3, hl3, hlb3, hg4, hgb4, hl4, hlb4, hg5, hl5⟩ := h c
  exact {
    x := isReal_of_less _ _ hx
    g1 := isReal_of_less _ _ hg1
    gb1 := isReal_of_less _ _ hgb1
    l1 := isReal_of_less _ _ hl1
    lb1 := isReal_of_less _ _ hlb1
    g2 := isReal_of_less _ _ hg2
    gb2 := isReal_of_less _ _ hgb2
    l2 := isReal_of_less _ _ hl2
    lb2 := isReal_of_less _ _ hlb2
    g3 := isReal_of_less _ _ hg3
    gb3 := isReal_of_less _ _ hgb3
    l3 := isReal_of_less _ _ hl3
    lb3 := isReal_of_less _ _ hlb3
    g4 := isReal_of_less _ _ hg4
    gb4 := isReal_of_less _ _ hgb4
    l4 := isReal_of_less _ _ hl4
    lb4 := isReal_of_less _ _ hlb4
    g5 := isReal_of_less _ _ hg5
    l5 := isReal_of_less _ _ hl5 }

end Cert.KernelIdeal.Fused

end
-- ==== Proof.KernelRun.lean ====
module

public import proofs.«01_k».proof.Proof.Gen.Kernel.Frame.RunA
public import proofs.«01_k».proof.Proof.Gen.Kernel.Frame.RunB
public import Idealize.ShloMosaic.Lib.Pipeline.Value
public import Idealize.ShloMosaic.Lib.Claim

/-! # The run of the kernel of machine floats

The kernel terminates whatever its arguments hold.  The invariant of the launch names no value: before the first grid
point the weight buffers hold anything; after it, and after every later point, they hold what the stores of the first
point left there.  Every point leaves in the result's staging buffer what its own stores wrote. -/

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-- The first grid point's run of the body, at the operands the pipeline hands it. -/
abbrev runA (c : Dev nD) (t : Fin cfg0.N) (h : cond0_0 (grid0.coords t))
    (x0 : Vec F S400x128 .f32) (x1 : Vec F S1x2048 .f32) (x2 : Vec F S1x2048 .f32) (x3 : Vec F S1x2048 .f32) (x4 : Vec F S1x2048 .f32) (x5 : Vec F S1x128 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) h x0 x1 x2 x3 x4 x5 fh0 fh1 fh2 fh3 fh4 fh5 fh6 fh7 fh8 fh9

/-- A later grid point's run of the body, at the operands the pipeline hands it. -/
abbrev runB (c : Dev nD) (t : Fin cfg0.N) (h : ¬cond0_0 (grid0.coords t))
    (x0 : Vec F S400x128 .f32) (x1 : Vec F S1x2048 .f32) (x2 : Vec F S1x2048 .f32) (x3 : Vec F S1x2048 .f32) (x4 : Vec F S1x2048 .f32) (x5 : Vec F S1x128 .f32) (w1 : Vec F S128x2048 .bf16) (w2 w3 w4 : Vec F S2048x2048 .bf16) (w5 : Vec F S2048x128 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) h x0 x1 x2 x3 x4 x5 w1 w2 w3 w4 w5 fh0 fh1 fh2 fh3 fh4 fh5 fh6 fh7 fh8 fh9

section Covers

variable (c : Dev nD) (t : Fin cfg0.N) (h : cond0_0 (grid0.coords t))
    (x0 : Vec F S400x128 .f32) (x1 : Vec F S1x2048 .f32) (x2 : Vec F S1x2048 .f32) (x3 : Vec F S1x2048 .f32) (x4 : Vec F S1x2048 .f32) (x5 : Vec F S1x128 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9)

/-- The stores of the first grid point cover the weight buffer of the first layer. -/
theorem covers_first (y : S128x2048.Idx) :
    ∃ p ∈ (runA c t h x0 x1 x2 x3 x4 x5 fh0 fh1 fh2 fh3 fh4 fh5 fh6 fh7 fh8 fh9).2.1, y ∈ p.1.set :=
  View.cover_of_tiledL (s := S128x2048) _ S128x256.size (by sl_kernel_rfl) y

/-- The stores of the first grid point cover the weight buffer of the second layer. -/
theorem covers_second (y : S2048x2048.Idx) :
    ∃ p ∈ (runA c t h x0 x1 x2 x3 x4 x5 fh0 fh1 fh2 fh3 fh4 fh5 fh6 fh7 fh8 fh9).2.2.1, y ∈ p.1.set :=
  View.cover_of_tiledL (s := S2048x2048) _ S2048x256.size (by sl_kernel_rfl) y

/-- The stores of the first grid point cover the weight buffer of the third layer. -/
theorem covers_third (y : S2048x2048.Idx) :
    ∃ p ∈ (runA c t h x0 x1 x2 x3 x4 x5 fh0 fh1 fh2 fh3 fh4 fh5 fh6 fh7 fh8 fh9).2.2.2.1, y ∈ p.1.set :=
  View.cover_of_tiledL (s := S2048x2048) _ S2048x256.size (by sl_kernel_rfl) y

/-- The stores of the first grid point cover the weight buffer of the fourth layer. -/
theorem covers_fourth (y : S2048x2048.Idx) :
    ∃ p ∈ (runA c t h x0 x1 x2 x3 x4 x5 fh0 fh1 fh2 fh3 fh4 fh5 fh6 fh7 fh8 fh9).2.2.2.2.1, y ∈ p.1.set :=
  View.cover_of_tiledL (s := S2048x2048) _ S2048x256.size (by sl_kernel_rfl) y

/-- The stores of the first grid point cover the weight buffer of the fifth layer. -/
theorem covers_fifth (y : S2048x128.Idx) :
    ∃ p ∈ (runA c t h x0 x1 x2 x3 x4 x5 fh0 fh1 fh2 fh3 fh4 fh5 fh6 fh7 fh8 fh9).2.2.2.2.2.1, y ∈ p.1.set :=
  View.cover_of_tiledL (s := S2048x128) _ S2048x128.size (by sl_kernel_rfl) y

/-- The one store of the first grid point covers the block of the result. -/
theorem out_covers_first (y : S400x128.Idx) :
    ∃ p ∈ (runA c t h x0 x1 x2 x3 x4 x5 fh0 fh1 fh2 fh3 fh4 fh5 fh6 fh7 fh8 fh9).1, y ∈ p.1.set :=
  View.cover_of_tiledL (s := S400x128) _ S400x128.size (by sl_kernel_rfl) y

/-- The one store of a later grid point covers the block of the result. -/
theorem out_covers_later (h : ¬cond0_0 (grid0.coords t)) (w1 : Vec F S128x2048 .bf16)
    (w2 w3 w4 : Vec F S2048x2048 .bf16) (w5 : Vec F S2048x128 .bf16) (y : S400x128.Idx) :
    ∃ p ∈ (runB c t h x0 x1 x2 x3 x4 x5 w1 w2 w3 w4 w5 fh0 fh1 fh2 fh3 fh4 fh5 fh6 fh7 fh8 fh9).1, y ∈ p.1.set :=
  View.cover_of_tiledL (s := S400x128) _ S400x128.size (by sl_kernel_rfl) y

end Covers

variable (m : (ℓ : Loc nD τ sig) → Buf (Elt F) ℓ) (ρ : Dev nD → PrngReg) (c : Dev nD)

/-- The first grid point. -/
def point0 : Fin cfg0.N := ⟨0, by have : cfg0.N = 25 := N_0; omega⟩

theorem first0 : cond0_0 (grid0.coords point0) := (hcond0_0 point0).mpr rfl

/-- The first grid point's run on the blocks and the weight matrices of a memory. -/
abbrev firstRun (t : Fin cfg0.N) (h : cond0_0 (grid0.coords t)) :=
  runA c t h (iblk m c 0 t) (iblk m c 1 t) (iblk m c 2 t) (iblk m c 3 t) (iblk m c 4 t) (iblk m c 5 t)
    (V m c main_arg2) (V m c main_arg4) (V m c main_arg6) (V m c main_arg8) (V m c main_arg10) (V m c main_arg12)
    (V m c main_arg14) (V m c main_arg16) (V m c main_arg18) (V m c main_arg20)

/-- What the first grid point leaves in the weight buffer of the first layer. -/
def weight1 : Vec F S128x2048 .bf16 := View.canon (firstRun m c point0 first0).2.1
/-- What the first grid point leaves in the weight buffer of the second layer. -/
def weight2 : Vec F S2048x2048 .bf16 := View.canon (firstRun m c point0 first0).2.2.1
/-- What the first grid point leaves in the weight buffer of the third layer. -/
def weight3 : Vec F S2048x2048 .bf16 := View.canon (firstRun m c point0 first0).2.2.2.1
/-- What the first grid point leaves in the weight buffer of the fourth layer. -/
def weight4 : Vec F S2048x2048 .bf16 := View.canon (firstRun m c point0 first0).2.2.2.2.1
/-- What the first grid point leaves in the weight buffer of the fifth layer. -/
def weight5 : Vec F S2048x128 .bf16 := View.canon (firstRun m c point0 first0).2.2.2.2.2.1

/-- A later grid point's run on the blocks of a memory and the weights the buffers carry. -/
abbrev laterRun (t : Fin cfg0.N) (h : ¬cond0_0 (grid0.coords t)) :=
  runB c t h (iblk m c 0 t) (iblk m c 1 t) (iblk m c 2 t) (iblk m c 3 t) (iblk m c 4 t) (iblk m c 5 t)
    (weight1 m c) (weight2 m c) (weight3 m c) (weight4 m c) (weight5 m c)
    (V m c main_arg2) (V m c main_arg4) (V m c main_arg6) (V m c main_arg8) (V m c main_arg10) (V m c main_arg12)
    (V m c main_arg14) (V m c main_arg16) (V m c main_arg18) (V m c main_arg20)

/-- What a grid point leaves in the result's staging buffer: what its store wrote. -/
def pointOut (t : Fin cfg0.N) : Vec F S400x128 .f32 :=
  if h : cond0_0 (grid0.coords t) then View.canon (firstRun m c t h).1 else View.canon (laterRun m c t h).1

theorem pointOut_first : pointOut m c point0 = View.canon (firstRun m c point0 first0).1 := dif_pos first0

theorem pointOut_later (t : Fin cfg0.N) (h : ¬cond0_0 (grid0.coords t)) :
    pointOut m c t = View.canon (laterRun m c t h).1 := dif_neg h

/-- The state between two grid points: the weight buffers as the first point left them, the staging buffers of the weight
    blocks at anything, the transfer counters at zero, the weight matrices in HBM as the launch found them. -/
def between : sProp 𝕄 :=
  iprop(iprop(owns (c : Thread nD τ) scM0_0 fullShare (weight1 m c)
      ∗ owns (c : Thread nD τ) scM0_1 fullShare (weight2 m c)
      ∗ owns (c : Thread nD τ) scM0_2 fullShare (weight3 m c)
      ∗ owns (c : Thread nD τ) scM0_3 fullShare (weight4 m c)
      ∗ owns (c : Thread nD τ) scM0_4 fullShare (weight5 m c)
      ∗ (∃ d, owns (c : Thread nD τ) scM0_5 fullShare d)
      ∗ (∃ d, owns (c : Thread nD τ) scM0_6 fullShare d)
      ∗ (∃ d, owns (c : Thread nD τ) scM0_7 fullShare d)
      ∗ (∃ d, owns (c : Thread nD τ) scM0_8 fullShare d)
      ∗ (∃ d, owns (c : Thread nD τ) scM0_9 fullShare d)
      ∗ (∃ d, owns (c : Thread nD τ) scM0_10 fullShare d)
      ∗ (∃ d, owns (c : Thread nD τ) scM0_11 fullShare d)
      ∗ (∃ d, owns (c : Thread nD τ) scM0_12 fullShare d))
    ∗ (∃ r, prngReg c r)
    ∗ iprop(semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0)
    ∗ iprop(hbPt0 c hbM0_0 (V m c main_arg2) ∗ hbPt0 c hbM0_1 (V m c main_arg4) ∗ hbPt0 c hbM0_2 (V m c main_arg6) ∗ hbPt0 c hbM0_3 (V m c main_arg8) ∗ hbPt0 c hbM0_4 (V m c main_arg10) ∗ hbPt0 c hbM0_5 (V m c main_arg12) ∗ hbPt0 c hbM0_6 (V m c main_arg14) ∗ hbPt0 c hbM0_7 (V m c main_arg16) ∗ hbPt0 c hbM0_8 (V m c main_arg18) ∗ hbPt0 c hbM0_9 (V m c main_arg20)))

/-- The invariant before grid point `n`. -/
def inv : ℕ → sProp 𝕄
  | 0 => Pipeline.ΦD osem0 spec0 H0 (V m) c
  | _ + 1 => between m c

theorem inv_pos (n : ℕ) (h : n ≠ 0) : inv m c n = between m c := by
  cases n with
  | zero => exact absurd rfl h
  | succ n => rfl

/-- What the launch is verified against: the arrays as the region finds them, every input buffer at its block, the
    result's buffer at `pointOut`, the invariant `inv`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => pointOut m c t
  Φ t := inv m c t.val
  q _ := fullShare
  owed _ := 0

theorem A_eq (w : Fin cfg0.W) : (dats m 0 c).A w = V m c (Pipeline.arrRef spec0 w) := by
  dsimp only [dats]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = iblk m c 2 t := by dsimp only [dats]
theorem after3 (t : Fin cfg0.N) : (dats m 0 c).after 3 t = iblk m c 3 t := by dsimp only [dats]
theorem after4 (t : Fin cfg0.N) : (dats m 0 c).after 4 t = iblk m c 4 t := by dsimp only [dats]
theorem after5 (t : Fin cfg0.N) : (dats m 0 c).after 5 t = iblk m c 5 t := by dsimp only [dats]
theorem after6 (t : Fin cfg0.N) : (dats m 0 c).after 6 t = pointOut m c t := by dsimp only [dats]

theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d
theorem before2 (t : Fin cfg0.N) (d) : (dats m 0 c).before 2 t d = iblk m c 2 t :=
  before0_2_of m (dats m 0 c) (A_eq m c 2) (after2 m c) t d
theorem before3 (t : Fin cfg0.N) (d) : (dats m 0 c).before 3 t d = iblk m c 3 t :=
  before0_3_of m (dats m 0 c) (A_eq m c 3) (after3 m c) t d
theorem before4 (t : Fin cfg0.N) (d) : (dats m 0 c).before 4 t d = iblk m c 4 t :=
  before0_4_of m (dats m 0 c) (A_eq m c 4) (after4 m c) t d
theorem before5 (t : Fin cfg0.N) (d) : (dats m 0 c).before 5 t d = iblk m c 5 t :=
  before0_5_of m (dats m 0 c) (A_eq m c 5) (after5 m c) t d

/-- What the body is entered with at point `t`. -/
def entered (t : Fin cfg0.N) (P : sProp 𝕄) : sProp 𝕄 :=
  iprop(P ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it is left with. -/
def leaves (t : Fin cfg0.N) : sProp 𝕄 :=
  iprop(between m c ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 16000000 in
/-- The first grid point fills the weight buffers and leaves what its store wrote. -/
theorem point_first :
    entered m c point0 (Pipeline.ΦD osem0 spec0 H0 (V m) c)
      ⊢ wp frame (wpE (defs₀ (F := F)) Variants.none c none) Set.univ (bodyAt0 point0) (fun _ => leaves m c point0) := by
  unfold entered leaves bodyAt0 between
  simp only [before0, before1, before2, before3, before4, before5, after0, after1, after2, after3, after4, after5, after6]
  unfold Dat.owesAt Pipeline.owesWithin
  rw [show (dats m 0 c).owed point0.castSucc = 0 from rfl, show (dats m 0 c).owed point0.succ = 0 from rfl]
  rw [PhiD0_eq]
  iintro ⟨⟨⟨HS0, HS1, HS2, HS3, HS4, HS5, HS6, HS7, HS8, HS9, HS10, HS11, HS12⟩, Hg, ⟨Hq0, Hq1, Hq2, Hq3, Hq4, Hq5, Hq6, Hq7⟩, ⟨Hh0, Hh1, Hh2, Hh3, Hh4, Hh5, Hh6, Hh7, Hh8, Hh9⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (firstRun m c point0 first0).2.2.2.2.2.2.2.2.2.2.2.2.2.2 W _
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [HW]; · iexact HW
  iintro ⟨H0, H1, H2, H3, H4, H5, ⟨%e6, H6⟩, ⟨%es0, HS0⟩, ⟨%es1, HS1⟩, ⟨%es2, HS2⟩, ⟨%es3, HS3⟩, ⟨%es4, HS4⟩, ⟨%es5, HS5⟩, ⟨%es6, HS6⟩, ⟨%es7, HS7⟩, ⟨%es8, HS8⟩, ⟨%es9, HS9⟩, ⟨%es10, HS10⟩, ⟨%es11, HS11⟩, ⟨%es12, HS12⟩, Hq0, Hq1, Hq2, Hq3, Hq4, Hq5, Hq6, Hq7, Hh0, Hh1, Hh2, Hh3, Hh4, Hh5, Hh6, Hh7, Hh8, Hh9, ⟨%W', HW'⟩⟩
  isplitl [HS0 HS1 HS2 HS3 HS4 HS5 HS6 HS7 HS8 HS9 HS10 HS11 HS12 Hg Hq0 Hq1 Hq2 Hq3 Hq4 Hq5 Hq6 Hq7 Hh0 Hh1 Hh2 Hh3 Hh4 Hh5 Hh6 Hh7 Hh8 Hh9]
  · isplitl [HS0 HS1 HS2 HS3 HS4 HS5 HS6 HS7 HS8 HS9 HS10 HS11 HS12]
    · isplitl [HS0]
      · unfold owns; iexists _; isplitr
        swap; · iexact HS0
        ipureintro; exact View.read_writes_eq_canon _ _ _ (covers_first c point0 first0 _ _ _ _ _ _ _ _ _ _ _ _ _ _ _ _)
      isplitl [HS1]
      · unfold owns; iexists _; isplitr
        swap; · iexact HS1
        ipureintro; exact View.read_writes_eq_canon _ _ _ (covers_second c point0 first0 _ _ _ _ _ _ _ _ _ _ _ _ _ _ _ _)
      isplitl [HS2]
      · unfold owns; iexists _; isplitr
        swap; · iexact HS2
        ipureintro; exact View.read_writes_eq_canon _ _ _ (covers_third c point0 first0 _ _ _ _ _ _ _ _ _ _ _ _ _ _ _ _)
      isplitl [HS3]
      · unfold owns; iexists _; isplitr
        swap; · iexact HS3
        ipureintro; exact View.read_writes_eq_canon _ _ _ (covers_fourth c point0 first0 _ _ _ _ _ _ _ _ _ _ _ _ _ _ _ _)
      isplitl [HS4]
      · unfold owns; iexists _; isplitr
        swap; · iexact HS4
        ipureintro; exact View.read_writes_eq_canon _ _ _ (covers_fifth c point0 first0 _ _ _ _ _ _ _ _ _ _ _ _ _ _ _ _)
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      isplitl [HS11]
      · iexists _; unfold owns; iexists _; isplitr
        swap; · iexact HS11
        ipureintro; rfl
      iexists _; unfold owns; iexists _; isplitr
      swap; · iexact HS12
      ipureintro; rfl
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    iexact Hh9
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (View.read_writes_eq_canon _ _ _ (out_covers_first c point0 first0 _ _ _ _ _ _ _ _ _ _ _ _ _ _ _ _)).trans
    (pointOut_first m c).symm

set_option maxHeartbeats 16000000 in
/-- A later grid point keeps the weight buffers and leaves what its store wrote. -/
theorem point_later (t : Fin cfg0.N) (h : ¬cond0_0 (grid0.coords t)) :
    entered m c t (between m c)
      ⊢ wp frame (wpE (defs₀ (F := F)) Variants.none c none) Set.univ (bodyAt0 t) (fun _ => leaves m c t) := by
  unfold entered leaves bodyAt0 between
  simp only [before0, before1, before2, before3, before4, before5, after0, after1, after2, after3, after4, after5, after6]
  unfold Dat.owesAt Pipeline.owesWithin
  rw [show (dats m 0 c).owed t.castSucc = 0 from rfl, show (dats m 0 c).owed t.succ = 0 from rfl]
  iintro ⟨⟨⟨HS0, HS1, HS2, HS3, HS4, HS5, HS6, HS7, HS8, HS9, HS10, HS11, HS12⟩, Hg, ⟨Hq0, Hq1, Hq2, Hq3, Hq4, Hq5, Hq6, Hq7⟩, ⟨Hh0, Hh1, Hh2, Hh3, Hh4, Hh5, Hh6, Hh7, Hh8, Hh9⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply (laterRun m c t h).2.2.2.2.2.2.2.2.2.2.2.2.2.2 W _
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [HW]; · iexact HW
  iintro ⟨H0, H1, H2, H3, H4, H5, ⟨%e6, H6⟩, HS0, HS1, HS2, HS3, HS4, HS5, HS6, HS7, HS8, HS9, HS10, HS11, HS12, Hq0, Hq1, Hq2, Hq3, Hq4, Hq5, Hq6, Hq7, Hh0, Hh1, Hh2, Hh3, Hh4, Hh5, Hh6, Hh7, Hh8, Hh9, ⟨%W', HW'⟩⟩
  isplitl [HS0 HS1 HS2 HS3 HS4 HS5 HS6 HS7 HS8 HS9 HS10 HS11 HS12 Hg Hq0 Hq1 Hq2 Hq3 Hq4 Hq5 Hq6 Hq7 Hh0 Hh1 Hh2 Hh3 Hh4 Hh5 Hh6 Hh7 Hh8 Hh9]
  · isplitl [HS0 HS1 HS2 HS3 HS4 HS5 HS6 HS7 HS8 HS9 HS10 HS11 HS12]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      iexact HS12
    isplitl [Hg]; · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    iexact Hh9
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (View.read_writes_eq_canon _ _ _ (out_covers_later c t _ _ _ _ _ _ _ _ _ _ _ _ _ _ _ _ h _ _ _ _ _)).trans
    (pointOut_later m c t h).symm

/-- Every grid point keeps the invariant. -/
theorem point (t : Fin cfg0.N) :
    entered m c t ((dats m 0 c).Φ t.castSucc)
      ⊢ wp frame (wpE (defs₀ (F := F)) Variants.none c none) Set.univ (bodyAt0 t) (fun _ => leaves m c t) := by
  have hN : t.val < 25 := lt_of_lt_of_eq t.isLt (show cfg0.N = 25 from N_0)
  rw [show (dats m 0 c).Φ t.castSucc = inv m c t.val from rfl]
  by_cases hz : t.val = 0
  · obtain rfl : t = point0 := Fin.ext hz
    exact point_first m c
  · rw [inv_pos m c _ hz]
    exact point_later m c t fun h => by have := (hcond0_0 t).mp h; omega

/-- The body called at a point is the body at the point's staging buffers. -/
theorem body_row (t : Fin cfg0.N) :
    defs₀ (F := F) .tc cfg0.body (cfg0.bodyArgs t (cfg0.slots t)) = bodyAt0 t := by
  unfold defs₀
  rw [Defs.onTc_tc]

theorem obligation : BodyObligation (dats m 0 c) (defs₀ (F := F)) Variants.none () Set.univ := fun t => by
  rw [bigSep_W0, bigSep_W0, body_row]
  exact triple_restated (point m c t) rfl .rfl fun _ => .rfl

/-- The launch hands the region the invariant before the first point. -/
theorem start : Pipeline.ΦD osem0 spec0 H0 (V m) c ⊢ (dats m 0 c).Φ 0 :=
  Idealize.SL.BI.Entails.refl _

/-- After the last point the region gives back what it was handed, the contents of the weight buffers forgotten. -/
theorem finish : (dats m 0 c).Φ (Fin.last cfg0.N) ⊢ Pipeline.ΦD osem0 spec0 H0 (V m) c := by
  rw [show (dats m 0 c).Φ (Fin.last cfg0.N) = inv m c cfg0.N from rfl,
    inv_pos m c _ (by have : cfg0.N = 25 := N_0; omega), PhiD0_eq]
  unfold between
  iintro ⟨⟨HS0, HS1, HS2, HS3, HS4, HS5, HS6, HS7, HS8, HS9, HS10, HS11, HS12⟩, Hg, Hq, Hh⟩
  isplitl [HS0 HS1 HS2 HS3 HS4 HS5 HS6 HS7 HS8 HS9 HS10 HS11 HS12]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    iexact HS12
  isplitl [Hg]; · iexact Hg
  isplitl [Hq]; · iexact Hq
  iexact Hh

-- the launch theorem's implicit arguments are found by unfolding plain definitions in their types
set_option backward.isDefEq.respectTransparency.types false in
/-- The run of the program: it terminates, every array ends at what the proof data say, every counter at zero. -/
theorem run_all : θ_run defs (onTc (τ := τ) (main (F := F))) (s₀ m ρ) (fun r =>
    (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub
    m ρ main (hbody := fun c => (obligation m c).loose) (hshare := fun c => (dats m 0 c).share_full fun _ => rfl)
    (howed := fun _ _ => rfl) (V := V m) (hmain := hmain m Variants.none) (hA := A_eq m) (hin := start m)
    (hout := finish m)

/-- The kernel's arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.Kernel.Run

end
-- ==== Proof.Reference.lean ====
module

public import proofs.«01_k».proof.Proof.Net
public import Idealize.ShloMosaic.Lib.Pointwise
public import proofs.«01_k».proof.Proof.Gen.ReferenceIdeal.Run

/-! # What the reference computes

Each layer of the reference, read entry by entry, is the sum of its two branches; the whole result is the network of
two branches applied to every row. -/

@[expose] public section

set_option maxRecDepth 16384

noncomputable section

namespace Cert.ReferenceIdeal.Twin

open Idealize.ShloMosaic Idealize.ShloMosaic.TcCoe Idealize.SL.Sem Idealize.ShloMosaic.StableHlo
open Cert.ReferenceIdeal Cert.ReferenceIdeal.Gen Cert.ReferenceIdeal.Value Cert.Layer Cert.Net

/-- The reference's activation, entry by entry. -/
theorem act_eq (z : FVec Ideal S10000x2048 .f32) :
    select (cmpf .ogt z (broadcastInDim S10000x2048 ![] bcast_S_S10000x2048 (constant S_ .f32 0x00000000#32))) z
      (mulf (broadcastInDim S10000x2048 ![] bcast_S_S10000x2048 (constant S_ .f32 0x3F800000#32))
        (Host.expm1 (select
          (cmpf .ogt z (broadcastInDim S10000x2048 ![] bcast_S_S10000x2048 (constant S_ .f32 0x00000000#32)))
          (broadcastInDim S10000x2048 ![] bcast_S_S10000x2048 (id (constant S_ .f32 0x00000000#32))) z)))
      = fun j => elu (z j) := by
  funext j
  rw [← elu_eq, id_eq]
  pointwise []

/-- The first layer before its activation, entry by entry. -/
theorem pre_first (h : FVec Ideal S10000x128 .f32) (g l : FVec Ideal S2048x128 .f32) (bg bl : FVec Ideal S2048 .f32) :
    addf (F := Ideal) (φ := .f32)
      (addf (Host.dotGeneral dot_S10000x128_S128x2048_S10000x2048_1_0_0_1_n_n none h
          (transpose S128x2048 [1, 0] g transposes_S2048x128_S128x2048_1_0))
        (broadcastInDim S10000x2048 ![0, 1] bcast_S1x2048_S10000x2048_0_1 (broadcastInDim S1x2048 ![1] bcast_S2048_S1x2048_1 bg)))
      (addf (Host.dotGeneral dot_S10000x128_S128x2048_S10000x2048_1_0_0_1_n_n none h
          (transpose S128x2048 [1, 0] l transposes_S2048x128_S128x2048_1_0))
        (broadcastInDim S10000x2048 ![0, 1] bcast_S1x2048_S10000x2048_0_1 (broadcastInDim S1x2048 ![1] bcast_S2048_S1x2048_1 bl)))
      = fun j => twin (fun k : Fin 128 => h (ix2 (j 0) k)) (fun q k => g (ix2 q k)) (fun q k => l (ix2 q k))
          (fun q : Fin 2048 => bg (ix1 q)) (fun q => bl (ix1 q)) (j 1) := by
  funext j
  pointwise [twin]

/-- A middle layer before its activation, entry by entry. -/
theorem pre_middle (h : FVec Ideal S10000x2048 .f32) (g l : FVec Ideal S2048x2048 .f32) (bg bl : FVec Ideal S2048 .f32) :
    addf (F := Ideal) (φ := .f32)
      (addf (Host.dotGeneral dot_S10000x2048_S2048x2048_S10000x2048_1_0_0_1_n_n none h
          (transpose S2048x2048 [1, 0] g transposes_S2048x2048_S2048x2048_1_0))
        (broadcastInDim S10000x2048 ![0, 1] bcast_S1x2048_S10000x2048_0_1 (broadcastInDim S1x2048 ![1] bcast_S2048_S1x2048_1 bg)))
      (addf (Host.dotGeneral dot_S10000x2048_S2048x2048_S10000x2048_1_0_0_1_n_n none h
          (transpose S2048x2048 [1, 0] l transposes_S2048x2048_S2048x2048_1_0))
        (broadcastInDim S10000x2048 ![0, 1] bcast_S1x2048_S10000x2048_0_1 (broadcastInDim S1x2048 ![1] bcast_S2048_S1x2048_1 bl)))
      = fun j => twin (fun k : Fin 2048 => h (ix2 (j 0) k)) (fun q k => g (ix2 q k)) (fun q k => l (ix2 q k))
          (fun q : Fin 2048 => bg (ix1 q)) (fun q => bl (ix1 q)) (j 1) := by
  funext j
  pointwise [twin]

/-- The last layer, entry by entry. -/
theorem pre_last (h : FVec Ideal S10000x2048 .f32) (g l : FVec Ideal S128x2048 .f32) (bg bl : FVec Ideal S128 .f32) :
    addf (F := Ideal) (φ := .f32)
      (addf (Host.dotGeneral dot_S10000x2048_S2048x128_S10000x128_1_0_0_1_n_n none h
          (transpose S2048x128 [1, 0] g transposes_S128x2048_S2048x128_1_0))
        (broadcastInDim S10000x128 ![0, 1] bcast_S1x128_S10000x128_0_1 (broadcastInDim S1x128 ![1] bcast_S128_S1x128_1 bg)))
      (addf (Host.dotGeneral dot_S10000x2048_S2048x128_S10000x128_1_0_0_1_n_n none h
          (transpose S2048x128 [1, 0] l transposes_S128x2048_S2048x128_1_0))
        (broadcastInDim S10000x128 ![0, 1] bcast_S1x128_S10000x128_0_1 (broadcastInDim S1x128 ![1] bcast_S128_S1x128_1 bl)))
      = fun j => twin (fun k : Fin 2048 => h (ix2 (j 0) k)) (fun q k => g (ix2 q k)) (fun q k => l (ix2 q k))
          (fun q : Fin 128 => bg (ix1 q)) (fun q => bl (ix1 q)) (j 1) := by
  funext j
  pointwise [twin]

/-- The arguments of the reference in a memory. -/
def args (m : (ℓ : Loc nD τ sig) → Buf (Elt Ideal) ℓ) (c : Dev nD) : Args where
  x := m ((c.tc : Thread nD τ).loc main_arg0)
  g1 := m ((c.tc : Thread nD τ).loc main_arg2)
  gb1 := m ((c.tc : Thread nD τ).loc main_arg3)
  l1 := m ((c.tc : Thread nD τ).loc main_arg4)
  lb1 := m ((c.tc : Thread nD τ).loc main_arg5)
  g2 := m ((c.tc : Thread nD τ).loc main_arg6)
  gb2 := m ((c.tc : Thread nD τ).loc main_arg7)
  l2 := m ((c.tc : Thread nD τ).loc main_arg8)
  lb2 := m ((c.tc : Thread nD τ).loc main_arg9)
  g3 := m ((c.tc : Thread nD τ).loc main_arg10)
  gb3 := m ((c.tc : Thread nD τ).loc main_arg11)
  l3 := m ((c.tc : Thread nD τ).loc main_arg12)
  lb3 := m ((c.tc : Thread nD τ).loc main_arg13)
  g4 := m ((c.tc : Thread nD τ).loc main_arg14)
  gb4 := m ((c.tc : Thread nD τ).loc main_arg15)
  l4 := m ((c.tc : Thread nD τ).loc main_arg16)
  lb4 := m ((c.tc : Thread nD τ).loc main_arg17)
  g5 := m ((c.tc : Thread nD τ).loc main_arg18)
  gb5 := m ((c.tc : Thread nD τ).loc main_arg19)
  l5 := m ((c.tc : Thread nD τ).loc main_arg20)
  lb5 := m ((c.tc : Thread nD τ).loc main_arg21)

variable (m : (ℓ : Loc nD τ sig) → Buf (Elt Ideal) ℓ) (ρ : Dev nD → PrngReg) (c : Dev nD)

/-- The rows of hidden layer 1. -/
def hidden1 (r : Fin 10000) : Fin 2048 → EReal :=
  twinLayer (mat (args m c).x r) (mat (args m c).g1) (mat (args m c).l1) (vec (args m c).gb1)
    (vec (args m c).lb1)

/-- The reference's array after its first activation holds the rows of hidden layer 1. -/
theorem first_eq : res_main_v11 (F := Ideal) (launchContents m c) = fun j => hidden1 m c (j 0) (j 1) := by
  unfold res_main_v11
  rw [act_eq]
  unfold res_main_v10
  rw [pre_first]
  rfl

/-- The rows of hidden layer 2. -/
def hidden2 (r : Fin 10000) : Fin 2048 → EReal :=
  twinLayer (hidden1 m c r) (mat (args m c).g2) (mat (args m c).l2) (vec (args m c).gb2)
    (vec (args m c).lb2)

/-- The reference's array after its second activation holds the rows of hidden layer 2. -/
theorem second_eq : res_main_v23 (F := Ideal) (launchContents m c) = fun j => hidden2 m c (j 0) (j 1) := by
  unfold res_main_v23
  rw [act_eq]
  unfold res_main_v22
  rw [first_eq, pre_middle]
  rfl

/-- The rows of hidden layer 3. -/
def hidden3 (r : Fin 10000) : Fin 2048 → EReal :=
  twinLayer (hidden2 m c r) (mat (args m c).g3) (mat (args m c).l3) (vec (args m c).gb3)
    (vec (args m c).lb3)

/-- The reference's array after its third activation holds the rows of hidden layer 3. -/
theorem third_eq : res_main_v35 (F := Ideal) (launchContents m c) = fun j => hidden3 m c (j 0) (j 1) := by
  unfold res_main_v35
  rw [act_eq]
  unfold res_main_v34
  rw [second_eq, pre_middle]
  rfl

/-- The rows of hidden layer 4. -/
def hidden4 (r : Fin 10000) : Fin 2048 → EReal :=
  twinLayer (hidden3 m c r) (mat (args m c).g4) (mat (args m c).l4) (vec (args m c).gb4)
    (vec (args m c).lb4)

/-- The reference's array after its fourth activation holds the rows of hidden layer 4. -/
theorem fourth_eq : res_main_v47 (F := Ideal) (launchContents m c) = fun j => hidden4 m c (j 0) (j 1) := by
  unfold res_main_v47
  rw [act_eq]
  unfold res_main_v46
  rw [third_eq, pre_middle]
  rfl

/-- The reference's run: it ends with its result the network of two branches applied to every row, its arguments
    unchanged. -/
theorem run_twin : θ_run defs (onTc (τ := τ) (main (F := Ideal))) ⟨m, fun _ => 0, ρ⟩ fun r => ∀ c : Dev nD,
      r.2.mem ((c.tc : Thread nD τ).loc main_v58) = twinNet (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c).1.trans (by rw [fourth_eq, pre_last]; rfl), (h c).2⟩) (run m ρ)

end Cert.ReferenceIdeal.Twin

end
-- ==== Proof.Run.lean ====
module

public import proofs.«01_k».proof.Proof.Array
public import Idealize.ShloMosaic.Lib.Claim

/-! # The kernel's run

The kernel terminates; its arguments end unchanged, every semaphore counter at zero, and its result is the network
with summed weights applied to every row. -/

@[expose] public section

set_option maxRecDepth 16384

noncomputable section

namespace Cert.KernelIdeal.Fused

open Idealize.ShloMosaic Idealize.ShloMosaic.TcCoe Idealize.SL.Sem
open Cert.KernelIdeal Cert.KernelIdeal.Gen Cert.Net

variable (m : (ℓ : Loc nD τ sig) → Buf (Elt Ideal) ℓ) (ρ : Dev nD → PrngReg)

/-- The kernel's arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) ((θ_run defs _ _).mono (fun _ h => h.1) (run_all m ρ))

/-- The kernel's arguments end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_all m ρ))

/-- The kernel's result is the network with summed weights, and its arguments end unchanged. -/
theorem run_fused : θ_run defs (onTc (τ := τ) (main (F := Ideal))) ⟨m, fun _ => 0, ρ⟩ (fun r => ∀ c : Dev nD,
      r.2.mem ((c.tc : Thread nD τ).loc main_v10) = fused (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h.2.1 c).1 6).trans (result m c), h.1 c⟩)
    (θ_run_and (unchanged m ρ) (run_all m ρ))

end Cert.KernelIdeal.Fused

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame.RunA
public import proofs.«01_k».proof.Proof.Gen.Kernel.Frame.RunB
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.RunA
public import proofs.«01_k».proof.Proof.Gen.KernelIdeal.Frame.RunB
public import proofs.«01_k».proof.Proof.Gen.ReferenceIdeal
public import proofs.«01_k».proof.Proof.Gen.ReferenceIdeal.Run
public import proofs.«01_k».proof.Proof.Finite
public import proofs.«01_k».proof.Proof.KernelRun
public import proofs.«01_k».proof.Proof.Reference
public import proofs.«01_k».proof.Proof.Run
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- Memories that agree on the arguments give the two programs the same arguments. -/
theorem args_agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ)
    (c : Dev KernelIdeal.nD)
    (h0 : m' ((c.tc : Thread ReferenceIdeal.nD ReferenceIdeal.τ).loc ReferenceIdeal.main_arg0)
      = m ((c.tc : Thread KernelIdeal.nD KernelIdeal.τ).loc KernelIdeal.main_arg0))
    (h2 : m' ((c.tc : Thread ReferenceIdeal.nD ReferenceIdeal.τ).loc ReferenceIdeal.main_arg2)
      = m ((c.tc : Thread KernelIdeal.nD KernelIdeal.τ).loc KernelIdeal.main_arg2))
    (h3 : m' ((c.tc : Thread ReferenceIdeal.nD ReferenceIdeal.τ).loc ReferenceIdeal.main_arg3)
      = m ((c.tc : Thread KernelIdeal.nD KernelIdeal.τ).loc KernelIdeal.main_arg3))
    (h4 : m' ((c.tc : Thread ReferenceIdeal.nD ReferenceIdeal.τ).loc ReferenceIdeal.main_arg4)
      = m ((c.tc : Thread KernelIdeal.nD KernelIdeal.τ).loc KernelIdeal.main_arg4))
    (h5 : m' ((c.tc : Thread ReferenceIdeal.nD ReferenceIdeal.τ).loc ReferenceIdeal.main_arg5)
      = m ((c.tc : Thread KernelIdeal.nD KernelIdeal.τ).loc KernelIdeal.main_arg5))
    (h6 : m' ((c.tc : Thread ReferenceIdeal.nD ReferenceIdeal.τ).loc ReferenceIdeal.main_arg6)
      = m ((c.tc : Thread KernelIdeal.nD KernelIdeal.τ).loc KernelIdeal.main_arg6))
    (h7 : m' ((c.tc : Thread ReferenceIdeal.nD ReferenceIdeal.τ).loc ReferenceIdeal.main_arg7)
      = m ((c.tc : Thread KernelIdeal.nD KernelIdeal.τ).loc KernelIdeal.main_arg7))
    (h8 : m' ((c.tc : Thread ReferenceIdeal.nD ReferenceIdeal.τ).loc ReferenceIdeal.main_arg8)
      = m ((c.tc : Thread KernelIdeal.nD KernelIdeal.τ).loc KernelIdeal.main_arg8))
    (h9 : m' ((c.tc : Thread ReferenceIdeal.nD ReferenceIdeal.τ).loc ReferenceIdeal.main_arg9)
      = m ((c.tc : Thread KernelIdeal.nD KernelIdeal.τ).loc KernelIdeal.main_arg9))
    (h10 : m' ((c.tc : Thread ReferenceIdeal.nD ReferenceIdeal.τ).loc ReferenceIdeal.main_arg10)
      = m ((c.tc : Thread KernelIdeal.nD KernelIdeal.τ).loc KernelIdeal.main_arg10))
    (h11 : m' ((c.tc : Thread ReferenceIdeal.nD ReferenceIdeal.τ).loc ReferenceIdeal.main_arg11)
      = m ((c.tc : Thread KernelIdeal.nD KernelIdeal.τ).loc KernelIdeal.main_arg11))
    (h12 : m' ((c.tc : Thread ReferenceIdeal.nD ReferenceIdeal.τ).loc ReferenceIdeal.main_arg12)
      = m ((c.tc : Thread KernelIdeal.nD KernelIdeal.τ).loc KernelIdeal.main_arg12))
    (h13 : m' ((c.tc : Thread ReferenceIdeal.nD ReferenceIdeal.τ).loc ReferenceIdeal.main_arg13)
      = m ((c.tc : Thread KernelIdeal.nD KernelIdeal.τ).loc KernelIdeal.main_arg13))
    (h14 : m' ((c.tc : Thread ReferenceIdeal.nD ReferenceIdeal.τ).loc ReferenceIdeal.main_arg14)
      = m ((c.tc : Thread KernelIdeal.nD KernelIdeal.τ).loc KernelIdeal.main_arg14))
    (h15 : m' ((c.tc : Thread ReferenceIdeal.nD ReferenceIdeal.τ).loc ReferenceIdeal.main_arg15)
      = m ((c.tc : Thread KernelIdeal.nD KernelIdeal.τ).loc KernelIdeal.main_arg15))
    (h16 : m' ((c.tc : Thread ReferenceIdeal.nD ReferenceIdeal.τ).loc ReferenceIdeal.main_arg16)
      = m ((c.tc : Thread KernelIdeal.nD KernelIdeal.τ).loc KernelIdeal.main_arg16))
    (h17 : m' ((c.tc : Thread ReferenceIdeal.nD ReferenceIdeal.τ).loc ReferenceIdeal.main_arg17)
      = m ((c.tc : Thread KernelIdeal.nD KernelIdeal.τ).loc KernelIdeal.main_arg17))
    (h18 : m' ((c.tc : Thread ReferenceIdeal.nD ReferenceIdeal.τ).loc ReferenceIdeal.main_arg18)
      = m ((c.tc : Thread KernelIdeal.nD KernelIdeal.τ).loc KernelIdeal.main_arg18))
    (h19 : m' ((c.tc : Thread ReferenceIdeal.nD ReferenceIdeal.τ).loc ReferenceIdeal.main_arg19)
      = m ((c.tc : Thread KernelIdeal.nD KernelIdeal.τ).loc KernelIdeal.main_arg19))
    (h20 : m' ((c.tc : Thread ReferenceIdeal.nD ReferenceIdeal.τ).loc ReferenceIdeal.main_arg20)
      = m ((c.tc : Thread KernelIdeal.nD KernelIdeal.τ).loc KernelIdeal.main_arg20))
    (h21 : m' ((c.tc : Thread ReferenceIdeal.nD ReferenceIdeal.τ).loc ReferenceIdeal.main_arg21)
      = m ((c.tc : Thread KernelIdeal.nD KernelIdeal.τ).loc KernelIdeal.main_arg21)) :
    ReferenceIdeal.Twin.args m' c = KernelIdeal.Fused.args m c := by
  unfold ReferenceIdeal.Twin.args KernelIdeal.Fused.args
  rw [h0, h2, h3, h4, h5, h6, h7, h8, h9, h10, h11, h12, h13, h14, h15, h16, h17, h18, h19, h20, h21]

/-- On finite arguments the kernel and the reference end with the same result. -/
theorem algebraic : algebraic_KernelIdeal_ReferenceIdeal_pre_finite_arguments := by
  intro m g m' g' hp ha
  refine ⟨fun c => Net.fused (KernelIdeal.Fused.args m c), KernelIdeal.Fused.run_fused m g,
    (θ_run ReferenceIdeal.defs _ _).mono (fun _ h c => ⟨(h c).1.trans ?_, (h c).2⟩)
      (ReferenceIdeal.Twin.run_twin m' g')⟩
  obtain ⟨h0, _, h2, h3, h4, h5, h6, h7, h8, h9, h10, h11, h12, h13, h14, h15, h16, h17, h18, h19, h20, h21⟩ := ha c
  exact (congrArg Net.twinNet (args_agree m m' c h0 h2 h3 h4 h5 h6 h7 h8 h9 h10 h11 h12 h13 h14 h15 h16 h17 h18 h19 h20 h21)).trans
    (Net.fused_eq_twinNet _ (KernelIdeal.Fused.args_finite m hp c)).symm

/-- The reference runs, its arguments end unchanged and its semaphore counters, of which it has none, at zero. -/
theorem reference_frame : quiescent_ReferenceIdeal := fun m g _ =>
  (θ_run ReferenceIdeal.defs _ _).mono (fun r h => ⟨fun c => (h c).2, sem_eq_zero_of_no_sems (by decide) r.2⟩)
    (ReferenceIdeal.Twin.run_twin m g)

/-- Every claim of the certificate. -/
theorem claim : Cert.Claim :=
  ⟨Kernel.Gen.facts, KernelIdeal.Gen.facts, ReferenceIdeal.Gen.facts, Pre_finite_arguments.facts,
    fun m ρ _ => Kernel.Run.frame m ρ, fun m ρ _ => KernelIdeal.Fused.frame m ρ,
    fun m ρ _ => KernelIdeal.Fused.frame m ρ, reference_frame, fun m ρ _ => reference_frame m ρ trivial, trivial,
    algebraic⟩

end Cert.Proof

end
